-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2)
      ∧ r.2.mem ((c.tc : Thread Cert.GateUpRefIdeal.nD Cert.GateUpRefIdeal.τ).loc Cert.GateUpRefIdeal.main_arg3) = m ((c.tc : Thread Cert.GateUpRefIdeal.nD Cert.GateUpRefIdeal.τ).loc Cert.GateUpRefIdeal.main_arg3)
      ∧ r.2.mem ((c.tc : Thread Cert.GateUpRefIdeal.nD Cert.GateUpRefIdeal.τ).loc Cert.GateUpRefIdeal.main_arg4) = m ((c.tc : Thread Cert.GateUpRefIdeal.nD Cert.GateUpRefIdeal.τ).loc Cert.GateUpRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1)
      ∧ r.2.mem ((c.tc : Thread Cert.OProj.nD Cert.OProj.τ).loc Cert.OProj.main_arg2) = m ((c.tc : Thread Cert.OProj.nD Cert.OProj.τ).loc Cert.OProj.main_arg2)
      ∧ r.2.mem ((c.tc : Thread Cert.OProj.nD Cert.OProj.τ).loc Cert.OProj.main_arg3) = m ((c.tc : Thread Cert.OProj.nD Cert.OProj.τ).loc Cert.OProj.main_arg3)
      ∧ r.2.mem ((c.tc : Thread Cert.OProj.nD Cert.OProj.τ).loc Cert.OProj.main_arg4) = m ((c.tc : Thread Cert.OProj.nD Cert.OProj.τ).loc Cert.OProj.main_arg4)
      ∧ r.2.mem ((c.tc : Thread Cert.OProj.nD Cert.OProj.τ).loc Cert.OProj.main_arg5) = m ((c.tc : Thread Cert.OProj.nD Cert.OProj.τ).loc Cert.OProj.main_arg5))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
      ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
      ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
      ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
      ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1)
      ∧ r.2.mem ((c.tc : Thread Cert.OProjRefIdeal.nD Cert.OProjRefIdeal.τ).loc Cert.OProjRefIdeal.main_arg2) = m ((c.tc : Thread Cert.OProjRefIdeal.nD Cert.OProjRefIdeal.τ).loc Cert.OProjRefIdeal.main_arg2)
      ∧ r.2.mem ((c.tc : Thread Cert.OProjRefIdeal.nD Cert.OProjRefIdeal.τ).loc Cert.OProjRefIdeal.main_arg3) = m ((c.tc : Thread Cert.OProjRefIdeal.nD Cert.OProjRefIdeal.τ).loc Cert.OProjRefIdeal.main_arg3)
      ∧ r.2.mem ((c.tc : Thread Cert.OProjRefIdeal.nD Cert.OProjRefIdeal.τ).loc Cert.OProjRefIdeal.main_arg4) = m ((c.tc : Thread Cert.OProjRefIdeal.nD Cert.OProjRefIdeal.τ).loc Cert.OProjRefIdeal.main_arg4)
      ∧ r.2.mem ((c.tc : Thread Cert.OProjRefIdeal.nD Cert.OProjRefIdeal.τ).loc Cert.OProjRefIdeal.main_arg5) = m ((c.tc : Thread Cert.OProjRefIdeal.nD Cert.OProjRefIdeal.τ).loc Cert.OProjRefIdeal.main_arg5))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)
      ∧ m' ((c.tc : Thread Cert.GateUpRefIdeal.nD Cert.GateUpRefIdeal.τ).loc Cert.GateUpRefIdeal.main_arg3) = m ((c.tc : Thread Cert.GateUpIdeal.nD Cert.GateUpIdeal.τ).loc Cert.GateUpIdeal.main_arg3)
      ∧ m' ((c.tc : Thread Cert.GateUpRefIdeal.nD Cert.GateUpRefIdeal.τ).loc Cert.GateUpRefIdeal.main_arg4) = m ((c.tc : Thread Cert.GateUpIdeal.nD Cert.GateUpIdeal.τ).loc Cert.GateUpIdeal.main_arg4)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v52) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2)
          ∧ r.2.mem ((c.tc : Thread Cert.GateUpRefIdeal.nD Cert.GateUpRefIdeal.τ).loc Cert.GateUpRefIdeal.main_arg3) = m' ((c.tc : Thread Cert.GateUpRefIdeal.nD Cert.GateUpRefIdeal.τ).loc Cert.GateUpRefIdeal.main_arg3)
          ∧ r.2.mem ((c.tc : Thread Cert.GateUpRefIdeal.nD Cert.GateUpRefIdeal.τ).loc Cert.GateUpRefIdeal.main_arg4) = m' ((c.tc : Thread Cert.GateUpRefIdeal.nD Cert.GateUpRefIdeal.τ).loc Cert.GateUpRefIdeal.main_arg4))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v40) = v0 c
          ∧ r.2.mem ((c.tc : Thread Cert.DownRefIdeal.nD Cert.DownRefIdeal.τ).loc Cert.DownRefIdeal.main_v42) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)) →
    ∃ (v0 : (c : Dev Cert.QkvIdeal.nD) → Buf (Elt Ideal) ((c.tc : Thread Cert.QkvIdeal.nD Cert.QkvIdeal.τ).loc Cert.QkvIdeal.main_v0_0)) (v1 : (c : Dev Cert.QkvIdeal.nD) → Buf (Elt Ideal) ((c.tc : Thread Cert.QkvIdeal.nD Cert.QkvIdeal.τ).loc Cert.QkvIdeal.main_v0_1)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0_0) = v0 c
          ∧ r.2.mem ((c.tc : Thread Cert.QkvIdeal.nD Cert.QkvIdeal.τ).loc Cert.QkvIdeal.main_v0_1) = v1 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v40) = v0 c
          ∧ r.2.mem ((c.tc : Thread Cert.QkvRefIdeal.nD Cert.QkvRefIdeal.τ).loc Cert.QkvRefIdeal.main_v44) = v1 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)
      ∧ m' ((c.tc : Thread Cert.OProjRefIdeal.nD Cert.OProjRefIdeal.τ).loc Cert.OProjRefIdeal.main_arg2) = m ((c.tc : Thread Cert.OProjIdeal.nD Cert.OProjIdeal.τ).loc Cert.OProjIdeal.main_arg2)
      ∧ m' ((c.tc : Thread Cert.OProjRefIdeal.nD Cert.OProjRefIdeal.τ).loc Cert.OProjRefIdeal.main_arg3) = m ((c.tc : Thread Cert.OProjIdeal.nD Cert.OProjIdeal.τ).loc Cert.OProjIdeal.main_arg3)
      ∧ m' ((c.tc : Thread Cert.OProjRefIdeal.nD Cert.OProjRefIdeal.τ).loc Cert.OProjRefIdeal.main_arg4) = m ((c.tc : Thread Cert.OProjIdeal.nD Cert.OProjIdeal.τ).loc Cert.OProjIdeal.main_arg4)
      ∧ m' ((c.tc : Thread Cert.OProjRefIdeal.nD Cert.OProjRefIdeal.τ).loc Cert.OProjRefIdeal.main_arg5) = m ((c.tc : Thread Cert.OProjIdeal.nD Cert.OProjIdeal.τ).loc Cert.OProjIdeal.main_arg5)) →
    ∃ (v0 : (c : Dev Cert.OProjIdeal.nD) → Buf (Elt Ideal) ((c.tc : Thread Cert.OProjIdeal.nD Cert.OProjIdeal.τ).loc Cert.OProjIdeal.main_v0_0)) (v1 : (c : Dev Cert.OProjIdeal.nD) → Buf (Elt Ideal) ((c.tc : Thread Cert.OProjIdeal.nD Cert.OProjIdeal.τ).loc Cert.OProjIdeal.main_v0_1)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v0_0) = v0 c
          ∧ r.2.mem ((c.tc : Thread Cert.OProjIdeal.nD Cert.OProjIdeal.τ).loc Cert.OProjIdeal.main_v0_1) = v1 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1)
          ∧ r.2.mem ((c.tc : Thread Cert.OProjIdeal.nD Cert.OProjIdeal.τ).loc Cert.OProjIdeal.main_arg2) = m ((c.tc : Thread Cert.OProjIdeal.nD Cert.OProjIdeal.τ).loc Cert.OProjIdeal.main_arg2)
          ∧ r.2.mem ((c.tc : Thread Cert.OProjIdeal.nD Cert.OProjIdeal.τ).loc Cert.OProjIdeal.main_arg3) = m ((c.tc : Thread Cert.OProjIdeal.nD Cert.OProjIdeal.τ).loc Cert.OProjIdeal.main_arg3)
          ∧ r.2.mem ((c.tc : Thread Cert.OProjIdeal.nD Cert.OProjIdeal.τ).loc Cert.OProjIdeal.main_arg4) = m ((c.tc : Thread Cert.OProjIdeal.nD Cert.OProjIdeal.τ).loc Cert.OProjIdeal.main_arg4)
          ∧ r.2.mem ((c.tc : Thread Cert.OProjIdeal.nD Cert.OProjIdeal.τ).loc Cert.OProjIdeal.main_arg5) = m ((c.tc : Thread Cert.OProjIdeal.nD Cert.OProjIdeal.τ).loc Cert.OProjIdeal.main_arg5))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v47) = v0 c
          ∧ r.2.mem ((c.tc : Thread Cert.OProjRefIdeal.nD Cert.OProjRefIdeal.τ).loc Cert.OProjRefIdeal.main_v49) = v1 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1)
          ∧ r.2.mem ((c.tc : Thread Cert.OProjRefIdeal.nD Cert.OProjRefIdeal.τ).loc Cert.OProjRefIdeal.main_arg2) = m' ((c.tc : Thread Cert.OProjRefIdeal.nD Cert.OProjRefIdeal.τ).loc Cert.OProjRefIdeal.main_arg2)
          ∧ r.2.mem ((c.tc : Thread Cert.OProjRefIdeal.nD Cert.OProjRefIdeal.τ).loc Cert.OProjRefIdeal.main_arg3) = m' ((c.tc : Thread Cert.OProjRefIdeal.nD Cert.OProjRefIdeal.τ).loc Cert.OProjRefIdeal.main_arg3)
          ∧ r.2.mem ((c.tc : Thread Cert.OProjRefIdeal.nD Cert.OProjRefIdeal.τ).loc Cert.OProjRefIdeal.main_arg4) = m' ((c.tc : Thread Cert.OProjRefIdeal.nD Cert.OProjRefIdeal.τ).loc Cert.OProjRefIdeal.main_arg4)
          ∧ r.2.mem ((c.tc : Thread Cert.OProjRefIdeal.nD Cert.OProjRefIdeal.τ).loc Cert.OProjRefIdeal.main_arg5) = m' ((c.tc : Thread Cert.OProjRefIdeal.nD Cert.OProjRefIdeal.τ).loc Cert.OProjRefIdeal.main_arg5))

def Claim : Prop :=
  ∃ (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hQkv : Cert.Qkv.Facts) (hQkvIdeal : Cert.QkvIdeal.Facts) (hQkvRefIdeal : Cert.QkvRefIdeal.Facts) (hOProj : Cert.OProj.Facts) (hOProjIdeal : Cert.OProjIdeal.Facts) (hOProjRefIdeal : Cert.OProjRefIdeal.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_Qkv (hQkv := hQkv)
    ∧ quiescent_QkvIdeal (hQkvIdeal := hQkvIdeal)
    ∧ quiescent_QkvRefIdeal (hQkvRefIdeal := hQkvRefIdeal)
    ∧ quiescent_OProj (hOProj := hOProj)
    ∧ quiescent_OProjIdeal (hOProjIdeal := hOProjIdeal)
    ∧ quiescent_OProjRefIdeal (hOProjRefIdeal := hOProjRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_Qkv_QkvIdeal
    ∧ algebraic_QkvIdeal_QkvRefIdeal (hQkvIdeal := hQkvIdeal) (hQkvRefIdeal := hQkvRefIdeal)
    ∧ preserves_OProj_OProjIdeal
    ∧ algebraic_OProjIdeal_OProjRefIdeal (hOProjIdeal := hOProjIdeal) (hOProjRefIdeal := hOProjRefIdeal)
-- ==== GateUp.lean ====
abbrev S1920x3072 : Shape := ⟨2, ![1920, 3072]⟩
abbrev S1920x128 : Shape := ⟨2, ![1920, 128]⟩
abbrev S3072x8192 : Shape := ⟨2, ![3072, 8192]⟩
abbrev S96x16384 : Shape := ⟨2, ![96, 16384]⟩
abbrev S1920x8192 : Shape := ⟨2, ![1920, 8192]⟩
abbrev S3072x256 : Shape := ⟨2, ![3072, 256]⟩
abbrev S96x256 : Shape := ⟨2, ![96, 256]⟩
abbrev S1920x256 : Shape := ⟨2, ![1920, 256]⟩
abbrev S3072x512 : Shape := ⟨2, ![3072, 512]⟩
abbrev S384x3072 : Shape := ⟨2, ![384, 3072]⟩
abbrev S384x1 : Shape := ⟨2, ![384, 1]⟩
abbrev S32x256 : Shape := ⟨2, ![32, 256]⟩
abbrev S8x256 : Shape := ⟨2, ![8, 256]⟩
abbrev S1x256 : Shape := ⟨2, ![1, 256]⟩
abbrev S384x512 : Shape := ⟨2, ![384, 512]⟩
abbrev S384x256 : Shape := ⟨2, ![384, 256]⟩

abbrev nBuf : Space → Nat
  | .hbm => 6
  | .vmem => 13
  | .smem => 0
  | _ => 0

abbrev bufTy : (tb : Table) → Fin (tcTables nBuf tb) → BufTy
  | .hbm, ⟨0, _⟩ => ⟨S1920x3072, .i8⟩
  | .hbm, ⟨1, _⟩ => ⟨S1920x128, .f32⟩
  | .hbm, ⟨2, _⟩ => ⟨S1920x128, .f32⟩
  | .hbm, ⟨3, _⟩ => ⟨S3072x8192, .i8⟩
  | .hbm, ⟨4, _⟩ => ⟨S96x16384, .f32⟩
  | .hbm, ⟨5, _⟩ => ⟨S1920x8192, .f32⟩
  | .local _ .vmem, ⟨0, _⟩ => ⟨S1920x3072, .i8⟩
  | .local _ .vmem, ⟨1, _⟩ => ⟨S1920x128, .f32⟩
  | .local _ .vmem, ⟨2, _⟩ => ⟨S1920x128, .f32⟩
  | .local _ .vmem, ⟨3, _⟩ => ⟨S3072x256, .i8⟩
  | .local _ .vmem, ⟨4, _⟩ => ⟨S3072x256, .i8⟩
  | .local _ .vmem, ⟨5, _⟩ => ⟨S96x256, .f32⟩
  | .local _ .vmem, ⟨6, _⟩ => ⟨S96x256, .f32⟩
  | .local _ .vmem, ⟨7, _⟩ => ⟨S96x256, .f32⟩
  | .local _ .vmem, ⟨8, _⟩ => ⟨S96x256, .f32⟩
  | .local _ .vmem, ⟨9, _⟩ => ⟨S1920x256, .f32⟩
  | .local _ .vmem, ⟨10, _⟩ => ⟨S1920x256, .f32⟩
  | .local _ .vmem, ⟨11, _⟩ => ⟨S1920x3072, .bf16⟩
  | .local _ .vmem, ⟨12, _⟩ => ⟨S3072x512, .bf16⟩
  | _, _ => ⟨S1920x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S1920x3072 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1920x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1920x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3072x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1920x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateUpRefIdeal.lean ====
abbrev S1920x3072 : Shape := ⟨2, ![1920, 3072]⟩
abbrev S1920x128 : Shape := ⟨2, ![1920, 128]⟩
abbrev S3072x8192 : Shape := ⟨2, ![3072, 8192]⟩
abbrev S96x16384 : Shape := ⟨2, ![96, 16384]⟩
abbrev S1920x1 : Shape := ⟨2, ![1920, 1]⟩
abbrev S_ : Shape := ⟨0, ![]⟩
abbrev S96x8192 : Shape := ⟨2, ![96, 8192]⟩
abbrev S96x32x8192 : Shape := ⟨3, ![96, 32, 8192]⟩
abbrev S96x1x8192 : Shape := ⟨3, ![96, 1, 8192]⟩
abbrev S1920x8192 : Shape := ⟨2, ![1920, 8192]⟩

abbrev nBuf : Space → Nat
  | .hbm => 66
  | .vmem => 0
  | .smem => 0
  | _ => 0

abbrev bufTy : (tb : Table) → Fin (tcTables nBuf tb) → BufTy
  | .hbm, ⟨0, _⟩ => ⟨S1920x3072, .i8⟩
  | .hbm, ⟨1, _⟩ => ⟨S1920x128, .f32⟩
  | .hbm, ⟨2, _⟩ => ⟨S1920x128, .f32⟩
  | .hbm, ⟨3, _⟩ => ⟨S3072x8192, .i8⟩
  | .hbm, ⟨4, _⟩ => ⟨S96x16384, .f32⟩
  | .hbm, ⟨5, _⟩ => ⟨S1920x3072, .i32⟩
  | .hbm, ⟨6, _⟩ => ⟨S1920x3072, .f32⟩
  | .hbm, ⟨7, _⟩ => ⟨S1920x1, .f32⟩
  | .hbm, ⟨8, _⟩ => ⟨S1920x3072, .f32⟩
  | .hbm, ⟨9, _⟩ => ⟨S1920x3072, .f32⟩
  | .hbm, ⟨10, _⟩ => ⟨S1920x3072, .bf16⟩
  | .hbm, ⟨11, _⟩ => ⟨S3072x8192, .i32⟩
  | .hbm, ⟨12, _⟩ => ⟨S_, .i32⟩
  | .hbm, ⟨13, _⟩ => ⟨S3072x8192, .i32⟩
  | .hbm, ⟨14, _⟩ => ⟨S3072x8192, .i32⟩
  | .hbm, ⟨15, _⟩ => ⟨S96x8192, .f32⟩
  | .hbm, ⟨16, _⟩ => ⟨S_, .i32⟩
  | .hbm, ⟨17, _⟩ => ⟨S3072x8192, .i32⟩
  | .hbm, ⟨18, _⟩ => ⟨S3072x8192, .i1⟩
  | .hbm, ⟨19, _⟩ => ⟨S_, .i32⟩
  | .hbm, ⟨20, _⟩ => ⟨S3072x8192, .i32⟩
  | .hbm, ⟨21, _⟩ => ⟨S3072x8192, .i32⟩
  | .hbm, ⟨22, _⟩ => ⟨S3072x8192, .i32⟩
  | .hbm, ⟨23, _⟩ => ⟨S3072x8192, .bf16⟩
  | .hbm, ⟨24, _⟩ => ⟨S96x32x8192, .bf16⟩
  | .hbm, ⟨25, _⟩ => ⟨S96x8192, .bf16⟩
  | .hbm, ⟨26, _⟩ => ⟨S96x1x8192, .bf16⟩
  | .hbm, ⟨27, _⟩ => ⟨S96x32x8192, .bf16⟩
  | .hbm, ⟨28, _⟩ => ⟨S96x32x8192, .bf16⟩
  | .hbm, ⟨29, _⟩ => ⟨S3072x8192, .bf16⟩
  | .hbm, ⟨30, _⟩ => ⟨S_, .i32⟩
  | .hbm, ⟨31, _⟩ => ⟨S3072x8192, .i32⟩
  | .hbm, ⟨32, _⟩ => ⟨S3072x8192, .i32⟩
  | .hbm, ⟨33, _⟩ => ⟨S96x8192, .f32⟩
  | .hbm, ⟨34, _⟩ => ⟨S_, .i32⟩
  | .hbm, ⟨35, _⟩ => ⟨S3072x8192, .i32⟩
  | .hbm, ⟨36, _⟩ => ⟨S3072x8192, .i1⟩
  | .hbm, ⟨37, _⟩ => ⟨S_, .i32⟩
  | .hbm, ⟨38, _⟩ => ⟨S3072x8192, .i32⟩
  | .hbm, ⟨39, _⟩ => ⟨S3072x8192, .i32⟩
  | .hbm, ⟨40, _⟩ => ⟨S3072x8192, .i32⟩
  | .hbm, ⟨41, _⟩ => ⟨S3072x8192, .bf16⟩
  | .hbm, ⟨42, _⟩ => ⟨S96x32x8192, .bf16⟩
  | .hbm, ⟨43, _⟩ => ⟨S96x8192, .bf16⟩
  | .hbm, ⟨44, _⟩ => ⟨S96x1x8192, .bf16⟩
  | .hbm, ⟨45, _⟩ => ⟨S96x32x8192, .bf16⟩
  | .hbm, ⟨46, _⟩ => ⟨S96x32x8192, .bf16⟩
  | .hbm, ⟨47, _⟩ => ⟨S3072x8192, .bf16⟩
  | .hbm, ⟨48, _⟩ => ⟨S1920x8192, .f32⟩
  | .hbm, ⟨49, _⟩ => ⟨S1920x1, .f32⟩
  | .hbm, ⟨50, _⟩ => ⟨S1920x8192, .f32⟩
  | .hbm, ⟨51, _⟩ => ⟨S1920x8192, .f32⟩
  | .hbm, ⟨52, _⟩ => ⟨S1920x8192, .f32⟩
  | .hbm, ⟨53, _⟩ => ⟨S1920x1, .f32⟩
  | .hbm, ⟨54, _⟩ => ⟨S1920x8192, .f32⟩
  | .hbm, ⟨55, _⟩ => ⟨S1920x8192, .f32⟩
  | .hbm, ⟨56, _⟩ => ⟨S1920x8192, .f32⟩
  | .hbm, ⟨57, _⟩ => ⟨S1920x8192, .f32⟩
  | .hbm, ⟨58, _⟩ => ⟨S1920x8192, .f32⟩
  | .hbm, ⟨59, _⟩ => ⟨S_, .f32⟩
  | .hbm, ⟨60, _⟩ => ⟨S1920x8192, .f32⟩
  | .hbm, ⟨61, _⟩ => ⟨S1920x8192, .f32⟩
  | .hbm, ⟨62, _⟩ => ⟨S_, .f32⟩
  | .hbm, ⟨63, _⟩ => ⟨S1920x8192, .f32⟩
  | .hbm, ⟨64, _⟩ => ⟨S1920x8192, .f32⟩
  | .hbm, ⟨65, _⟩ => ⟨S1920x8192, .f32⟩
  | _, _ => ⟨S1920x3072, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst : Ref sig .tc := ⟨.hbm, 59, rfl⟩
abbrev main_v48 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩

abbrev nD : Nat := 1
abbrev τ : Topo := Topo.v7x

variable {F : FTy → Type} [FloatOps F]
-- ==== Down.lean ====
abbrev S1920x8192 : Shape := ⟨2, ![1920, 8192]⟩
abbrev S1920x128 : Shape := ⟨2, ![1920, 128]⟩
abbrev S8192x1536 : Shape := ⟨2, ![8192, 1536]⟩
abbrev S256x3072 : Shape := ⟨2, ![256, 3072]⟩
abbrev S1920x1536 : Shape := ⟨2, ![1920, 1536]⟩
abbrev S8192x128 : Shape := ⟨2, ![8192, 128]⟩
abbrev S256x128 : Shape := ⟨2, ![256, 128]⟩
abbrev S8192x256 : Shape := ⟨2, ![8192, 256]⟩
abbrev S32x128 : Shape := ⟨2, ![32, 128]⟩
abbrev S8x128 : Shape := ⟨2, ![8, 128]⟩
abbrev S1x128 : Shape := ⟨2, ![1, 128]⟩
abbrev S384x8192 : Shape := ⟨2, ![384, 8192]⟩
abbrev S384x256 : Shape := ⟨2, ![384, 256]⟩
abbrev S384x1 : Shape := ⟨2, ![384, 1]⟩
abbrev S384x128 : Shape := ⟨2, ![384, 128]⟩

abbrev nBuf : Space → Nat
  | .hbm => 8
  | .vmem => 17
  | .smem => 0
  | _ => 0

abbrev bufTy : (tb : Table) → Fin (tcTables nBuf tb) → BufTy
  | .hbm, ⟨0, _⟩ => ⟨S1920x8192, .bf16⟩
  | .hbm, ⟨1, _⟩ => ⟨S1920x128, .f32⟩
  | .hbm, ⟨2, _⟩ => ⟨S8192x1536, .i8⟩
  | .hbm, ⟨3, _⟩ => ⟨S256x3072, .f32⟩
  | .hbm, ⟨4, _⟩ => ⟨S1920x1536, .f32⟩
  | .hbm, ⟨5, _⟩ => ⟨S1920x1536, .f32⟩
  | .hbm, ⟨6, _⟩ => ⟨S1920x1536, .bf16⟩
  | .hbm, ⟨7, _⟩ => ⟨S1920x1536, .bf16⟩
  | .local _ .vmem, ⟨0, _⟩ => ⟨S1920x8192, .bf16⟩
  | .local _ .vmem, ⟨1, _⟩ => ⟨S1920x128, .f32⟩
  | .local _ .vmem, ⟨2, _⟩ => ⟨S8192x128, .i8⟩
  | .local _ .vmem, ⟨3, _⟩ => ⟨S8192x128, .i8⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S1920x128, .f32⟩
  | .local _ .vmem, ⟨9, _⟩ => ⟨S1920x128, .f32⟩
  | .local _ .vmem, ⟨10, _⟩ => ⟨S1920x128, .f32⟩
  | .local _ .vmem, ⟨11, _⟩ => ⟨S1920x128, .f32⟩
  | .local _ .vmem, ⟨12, _⟩ => ⟨S1920x128, .bf16⟩
  | .local _ .vmem, ⟨13, _⟩ => ⟨S1920x128, .bf16⟩
  | .local _ .vmem, ⟨14, _⟩ => ⟨S1920x128, .bf16⟩
  | .local _ .vmem, ⟨15, _⟩ => ⟨S1920x128, .bf16⟩
  | .local _ .vmem, ⟨16, _⟩ => ⟨S8192x256, .bf16⟩
  | _, _ => ⟨S1920x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1920x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1920x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1920x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1920x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1920x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1920x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== DownRefIdeal.lean ====
abbrev S1920x8192 : Shape := ⟨2, ![1920, 8192]⟩
abbrev S1920x128 : Shape := ⟨2, ![1920, 128]⟩
abbrev S8192x1536 : Shape := ⟨2, ![8192, 1536]⟩
abbrev S256x3072 : Shape := ⟨2, ![256, 3072]⟩
abbrev S1920x1536 : Shape := ⟨2, ![1920, 1536]⟩
abbrev S_ : Shape := ⟨0, ![]⟩
abbrev S256x1536 : Shape := ⟨2, ![256, 1536]⟩
abbrev S256x32x1536 : Shape := ⟨3, ![256, 32, 1536]⟩
abbrev S256x1x1536 : Shape := ⟨3, ![256, 1, 1536]⟩
abbrev S1920x1 : Shape := ⟨2, ![1920, 1]⟩

abbrev nBuf : Space → Nat
  | .hbm => 55
  | .vmem => 0
  | .smem => 0
  | _ => 0

abbrev bufTy : (tb : Table) → Fin (tcTables nBuf tb) → BufTy
  | .hbm, ⟨0, _⟩ => ⟨S1920x8192, .bf16⟩
  | .hbm, ⟨1, _⟩ => ⟨S1920x128, .f32⟩
  | .hbm, ⟨2, _⟩ => ⟨S8192x1536, .i8⟩
  | .hbm, ⟨3, _⟩ => ⟨S256x3072, .f32⟩
  | .hbm, ⟨4, _⟩ => ⟨S1920x1536, .f32⟩
  | .hbm, ⟨5, _⟩ => ⟨S1920x1536, .f32⟩
  | .hbm, ⟨6, _⟩ => ⟨S8192x1536, .i32⟩
  | .hbm, ⟨7, _⟩ => ⟨S_, .i32⟩
  | .hbm, ⟨8, _⟩ => ⟨S8192x1536, .i32⟩
  | .hbm, ⟨9, _⟩ => ⟨S8192x1536, .i32⟩
  | .hbm, ⟨10, _⟩ => ⟨S256x1536, .f32⟩
  | .hbm, ⟨11, _⟩ => ⟨S_, .i32⟩
  | .hbm, ⟨12, _⟩ => ⟨S8192x1536, .i32⟩
  | .hbm, ⟨13, _⟩ => ⟨S8192x1536, .i1⟩
  | .hbm, ⟨14, _⟩ => ⟨S_, .i32⟩
  | .hbm, ⟨15, _⟩ => ⟨S8192x1536, .i32⟩
  | .hbm, ⟨16, _⟩ => ⟨S8192x1536, .i32⟩
  | .hbm, ⟨17, _⟩ => ⟨S8192x1536, .i32⟩
  | .hbm, ⟨18, _⟩ => ⟨S8192x1536, .bf16⟩
  | .hbm, ⟨19, _⟩ => ⟨S256x32x1536, .bf16⟩
  | .hbm, ⟨20, _⟩ => ⟨S256x1536, .bf16⟩
  | .hbm, ⟨21, _⟩ => ⟨S256x1x1536, .bf16⟩
  | .hbm, ⟨22, _⟩ => ⟨S256x32x1536, .bf16⟩
  | .hbm, ⟨23, _⟩ => ⟨S256x32x1536, .bf16⟩
  | .hbm, ⟨24, _⟩ => ⟨S8192x1536, .bf16⟩
  | .hbm, ⟨25, _⟩ => ⟨S_, .i32⟩
  | .hbm, ⟨26, _⟩ => ⟨S8192x1536, .i32⟩
  | .hbm, ⟨27, _⟩ => ⟨S8192x1536, .i32⟩
  | .hbm, ⟨28, _⟩ => ⟨S256x1536, .f32⟩
  | .hbm, ⟨29, _⟩ => ⟨S_, .i32⟩
  | .hbm, ⟨30, _⟩ => ⟨S8192x1536, .i32⟩
  | .hbm, ⟨31, _⟩ => ⟨S8192x1536, .i1⟩
  | .hbm, ⟨32, _⟩ => ⟨S_, .i32⟩
  | .hbm, ⟨33, _⟩ => ⟨S8192x1536, .i32⟩
  | .hbm, ⟨34, _⟩ => ⟨S8192x1536, .i32⟩
  | .hbm, ⟨35, _⟩ => ⟨S8192x1536, .i32⟩
  | .hbm, ⟨36, _⟩ => ⟨S8192x1536, .bf16⟩
  | .hbm, ⟨37, _⟩ => ⟨S256x32x1536, .bf16⟩
  | .hbm, ⟨38, _⟩ => ⟨S256x1536, .bf16⟩
  | .hbm, ⟨39, _⟩ => ⟨S256x1x1536, .bf16⟩
  | .hbm, ⟨40, _⟩ => ⟨S256x32x1536, .bf16⟩
  | .hbm, ⟨41, _⟩ => ⟨S256x32x1536, .bf16⟩
  | .hbm, ⟨42, _⟩ => ⟨S8192x1536, .bf16⟩
  | .hbm, ⟨43, _⟩ => ⟨S1920x1536, .f32⟩
  | .hbm, ⟨44, _⟩ => ⟨S1920x1, .f32⟩
  | .hbm, ⟨45, _⟩ => ⟨S1920x1536, .f32⟩
  | .hbm, ⟨46, _⟩ => ⟨S1920x1536, .f32⟩
  | .hbm, ⟨47, _⟩ => ⟨S1920x1536, .f32⟩
  | .hbm, ⟨48, _⟩ => ⟨S1920x1, .f32⟩
  | .hbm, ⟨49, _⟩ => ⟨S1920x1536, .f32⟩
  | .hbm, ⟨50, _⟩ => ⟨S1920x1536, .f32⟩
  | .hbm, ⟨51, _⟩ => ⟨S1920x1536, .f32⟩
  | .hbm, ⟨52, _⟩ => ⟨S1920x1536, .bf16⟩
  | .hbm, ⟨53, _⟩ => ⟨S1920x1536, .f32⟩
  | .hbm, ⟨54, _⟩ => ⟨S1920x1536, .bf16⟩
  | _, _ => ⟨S1920x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Qkv.lean ====
abbrev S1920x3072 : Shape := ⟨2, ![1920, 3072]⟩
abbrev S1920x128 : Shape := ⟨2, ![1920, 128]⟩
abbrev S3072x2560 : Shape := ⟨2, ![3072, 2560]⟩
abbrev S96x5120 : Shape := ⟨2, ![96, 5120]⟩
abbrev S1920x2560 : Shape := ⟨2, ![1920, 2560]⟩
abbrev S3072x256 : Shape := ⟨2, ![3072, 256]⟩
abbrev S96x256 : Shape := ⟨2, ![96, 256]⟩
abbrev S1920x256 : Shape := ⟨2, ![1920, 256]⟩
abbrev S3072x512 : Shape := ⟨2, ![3072, 512]⟩
abbrev S384x3072 : Shape := ⟨2, ![384, 3072]⟩
abbrev S384x1 : Shape := ⟨2, ![384, 1]⟩
abbrev S32x256 : Shape := ⟨2, ![32, 256]⟩
abbrev S8x256 : Shape := ⟨2, ![8, 256]⟩
abbrev S1x256 : Shape := ⟨2, ![1, 256]⟩
abbrev S384x512 : Shape := ⟨2, ![384, 512]⟩
abbrev S384x256 : Shape := ⟨2, ![384, 256]⟩

abbrev nBuf : Space → Nat
  | .hbm => 7
  | .vmem => 15
  | .smem => 0
  | _ => 0

abbrev bufTy : (tb : Table) → Fin (tcTables nBuf tb) → BufTy
  | .hbm, ⟨0, _⟩ => ⟨S1920x3072, .i8⟩
  | .hbm, ⟨1, _⟩ => ⟨S1920x128, .f32⟩
  | .hbm, ⟨2, _⟩ => ⟨S1920x128, .f32⟩
  | .hbm, ⟨3, _⟩ => ⟨S3072x2560, .i8⟩
  | .hbm, ⟨4, _⟩ => ⟨S96x5120, .f32⟩
  | .hbm, ⟨5, _⟩ => ⟨S1920x2560, .f32⟩
  | .hbm, ⟨6, _⟩ => ⟨S1920x2560, .f32⟩
  | .local _ .vmem, ⟨0, _⟩ => ⟨S1920x3072, .i8⟩
  | .local _ .vmem, ⟨1, _⟩ => ⟨S1920x128, .f32⟩
  | .local _ .vmem, ⟨2, _⟩ => ⟨S1920x128, .f32⟩
  | .local _ .vmem, ⟨3, _⟩ => ⟨S3072x256, .i8⟩
  | .local _ .vmem, ⟨4, _⟩ => ⟨S3072x256, .i8⟩
  | .local _ .vmem, ⟨5, _⟩ => ⟨S96x256, .f32⟩
  | .local _ .vmem, ⟨6, _⟩ => ⟨S96x256, .f32⟩
  | .local _ .vmem, ⟨7, _⟩ => ⟨S96x256, .f32⟩
  | .local _ .vmem, ⟨8, _⟩ => ⟨S96x256, .f32⟩
  | .local _ .vmem, ⟨9, _⟩ => ⟨S1920x256, .f32⟩
  | .local _ .vmem, ⟨10, _⟩ => ⟨S1920x256, .f32⟩
  | .local _ .vmem, ⟨11, _⟩ => ⟨S1920x256, .f32⟩
  | .local _ .vmem, ⟨12, _⟩ => ⟨S1920x256, .f32⟩
  | .local _ .vmem, ⟨13, _⟩ => ⟨S1920x3072, .bf16⟩
  | .local _ .vmem, ⟨14, _⟩ => ⟨S3072x512, .bf16⟩
  | _, _ => ⟨S1920x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c10_i32 : BitVec 32 := 10#32
  let v0 : BitVec 32 := Scalar.addi arg0 c10_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S1920x3072 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1920x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1920x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3072x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1920x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1920x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== QkvRefIdeal.lean ====
abbrev S1920x3072 : Shape := ⟨2, ![1920, 3072]⟩
abbrev S1920x128 : Shape := ⟨2, ![1920, 128]⟩
abbrev S3072x2560 : Shape := ⟨2, ![3072, 2560]⟩
abbrev S96x5120 : Shape := ⟨2, ![96, 5120]⟩
abbrev S1920x1 : Shape := ⟨2, ![1920, 1]⟩
abbrev S_ : Shape := ⟨0, ![]⟩
abbrev S96x2560 : Shape := ⟨2, ![96, 2560]⟩
abbrev S96x32x2560 : Shape := ⟨3, ![96, 32, 2560]⟩
abbrev S96x1x2560 : Shape := ⟨3, ![96, 1, 2560]⟩
abbrev S1920x2560 : Shape := ⟨2, ![1920, 2560]⟩

abbrev nBuf : Space → Nat
  | .hbm => 56
  | .vmem => 0
  | .smem => 0
  | _ => 0

abbrev bufTy : (tb : Table) → Fin (tcTables nBuf tb) → BufTy
  | .hbm, ⟨0, _⟩ => ⟨S1920x3072, .i8⟩
  | .hbm, ⟨1, _⟩ => ⟨S1920x128, .f32⟩
  | .hbm, ⟨2, _⟩ => ⟨S1920x128, .f32⟩
  | .hbm, ⟨3, _⟩ => ⟨S3072x2560, .i8⟩
  | .hbm, ⟨4, _⟩ => ⟨S96x5120, .f32⟩
  | .hbm, ⟨5, _⟩ => ⟨S1920x3072, .i32⟩
  | .hbm, ⟨6, _⟩ => ⟨S1920x3072, .f32⟩
  | .hbm, ⟨7, _⟩ => ⟨S1920x1, .f32⟩
  | .hbm, ⟨8, _⟩ => ⟨S1920x3072, .f32⟩
  | .hbm, ⟨9, _⟩ => ⟨S1920x3072, .f32⟩
  | .hbm, ⟨10, _⟩ => ⟨S1920x3072, .bf16⟩
  | .hbm, ⟨11, _⟩ => ⟨S3072x2560, .i32⟩
  | .hbm, ⟨12, _⟩ => ⟨S_, .i32⟩
  | .hbm, ⟨13, _⟩ => ⟨S3072x2560, .i32⟩
  | .hbm, ⟨14, _⟩ => ⟨S3072x2560, .i32⟩
  | .hbm, ⟨15, _⟩ => ⟨S96x2560, .f32⟩
  | .hbm, ⟨16, _⟩ => ⟨S_, .i32⟩
  | .hbm, ⟨17, _⟩ => ⟨S3072x2560, .i32⟩
  | .hbm, ⟨18, _⟩ => ⟨S3072x2560, .i1⟩
  | .hbm, ⟨19, _⟩ => ⟨S_, .i32⟩
  | .hbm, ⟨20, _⟩ => ⟨S3072x2560, .i32⟩
  | .hbm, ⟨21, _⟩ => ⟨S3072x2560, .i32⟩
  | .hbm, ⟨22, _⟩ => ⟨S3072x2560, .i32⟩
  | .hbm, ⟨23, _⟩ => ⟨S3072x2560, .bf16⟩
  | .hbm, ⟨24, _⟩ => ⟨S96x32x2560, .bf16⟩
  | .hbm, ⟨25, _⟩ => ⟨S96x2560, .bf16⟩
  | .hbm, ⟨26, _⟩ => ⟨S96x1x2560, .bf16⟩
  | .hbm, ⟨27, _⟩ => ⟨S96x32x2560, .bf16⟩
  | .hbm, ⟨28, _⟩ => ⟨S96x32x2560, .bf16⟩
  | .hbm, ⟨29, _⟩ => ⟨S3072x2560, .bf16⟩
  | .hbm, ⟨30, _⟩ => ⟨S_, .i32⟩
  | .hbm, ⟨31, _⟩ => ⟨S3072x2560, .i32⟩
  | .hbm, ⟨32, _⟩ => ⟨S3072x2560, .i32⟩
  | .hbm, ⟨33, _⟩ => ⟨S96x2560, .f32⟩
  | .hbm, ⟨34, _⟩ => ⟨S_, .i32⟩
  | .hbm, ⟨35, _⟩ => ⟨S3072x2560, .i32⟩
  | .hbm, ⟨36, _⟩ => ⟨S3072x2560, .i1⟩
  | .hbm, ⟨37, _⟩ => ⟨S_, .i32⟩
  | .hbm, ⟨38, _⟩ => ⟨S3072x2560, .i32⟩
  | .hbm, ⟨39, _⟩ => ⟨S3072x2560, .i32⟩
  | .hbm, ⟨40, _⟩ => ⟨S3072x2560, .i32⟩
  | .hbm, ⟨41, _⟩ => ⟨S3072x2560, .bf16⟩
  | .hbm, ⟨42, _⟩ => ⟨S96x32x2560, .bf16⟩
  | .hbm, ⟨43, _⟩ => ⟨S96x2560, .bf16⟩
  | .hbm, ⟨44, _⟩ => ⟨S96x1x2560, .bf16⟩
  | .hbm, ⟨45, _⟩ => ⟨S96x32x2560, .bf16⟩
  | .hbm, ⟨46, _⟩ => ⟨S96x32x2560, .bf16⟩
  | .hbm, ⟨47, _⟩ => ⟨S3072x2560, .bf16⟩
  | .hbm, ⟨48, _⟩ => ⟨S1920x2560, .f32⟩
  | .hbm, ⟨49, _⟩ => ⟨S1920x1, .f32⟩
  | .hbm, ⟨50, _⟩ => ⟨S1920x2560, .f32⟩
  | .hbm, ⟨51, _⟩ => ⟨S1920x2560, .f32⟩
  | .hbm, ⟨52, _⟩ => ⟨S1920x2560, .f32⟩
  | .hbm, ⟨53, _⟩ => ⟨S1920x1, .f32⟩
  | .hbm, ⟨54, _⟩ => ⟨S1920x2560, .f32⟩
  | .hbm, ⟨55, _⟩ => ⟨S1920x2560, .f32⟩
  | _, _ => ⟨S1920x3072, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_3 : Ref sig .tc := ⟨.hbm, 34, rfl⟩
abbrev main_v25 : Ref sig .tc := ⟨.hbm, 35, rfl⟩
abbrev main_v26 : Ref sig .tc := ⟨.hbm, 36, rfl⟩
abbrev main_c_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== OProj.lean ====
abbrev S1920x3072 : Shape := ⟨2, ![1920, 3072]⟩
abbrev S1920x128 : Shape := ⟨2, ![1920, 128]⟩
abbrev S3072x1536 : Shape := ⟨2, ![3072, 1536]⟩
abbrev S96x3072 : Shape := ⟨2, ![96, 3072]⟩
abbrev S1920x1536 : Shape := ⟨2, ![1920, 1536]⟩
abbrev S3072x256 : Shape := ⟨2, ![3072, 256]⟩
abbrev S96x256 : Shape := ⟨2, ![96, 256]⟩
abbrev S1920x256 : Shape := ⟨2, ![1920, 256]⟩
abbrev S3072x512 : Shape := ⟨2, ![3072, 512]⟩
abbrev S384x3072 : Shape := ⟨2, ![384, 3072]⟩
abbrev S384x1 : Shape := ⟨2, ![384, 1]⟩
abbrev S32x256 : Shape := ⟨2, ![32, 256]⟩
abbrev S8x256 : Shape := ⟨2, ![8, 256]⟩
abbrev S1x256 : Shape := ⟨2, ![1, 256]⟩
abbrev S384x512 : Shape := ⟨2, ![384, 512]⟩
abbrev S384x256 : Shape := ⟨2, ![384, 256]⟩

abbrev nBuf : Space → Nat
  | .hbm => 8
  | .vmem => 19
  | .smem => 0
  | _ => 0

abbrev bufTy : (tb : Table) → Fin (tcTables nBuf tb) → BufTy
  | .hbm, ⟨0, _⟩ => ⟨S1920x3072, .i8⟩
  | .hbm, ⟨1, _⟩ => ⟨S1920x128, .f32⟩
  | .hbm, ⟨2, _⟩ => ⟨S1920x128, .f32⟩
  | .hbm, ⟨3, _⟩ => ⟨S3072x1536, .i8⟩
  | .hbm, ⟨4, _⟩ => ⟨S96x3072, .f32⟩
  | .hbm, ⟨5, _⟩ => ⟨S1920x3072, .bf16⟩
  | .hbm, ⟨6, _⟩ => ⟨S1920x1536, .f32⟩
  | .hbm, ⟨7, _⟩ => ⟨S1920x1536, .f32⟩
  | .local _ .vmem, ⟨0, _⟩ => ⟨S1920x3072, .i8⟩
  | .local _ .vmem, ⟨1, _⟩ => ⟨S1920x128, .f32⟩
  | .local _ .vmem, ⟨2, _⟩ => ⟨S1920x128, .f32⟩
  | .local _ .vmem, ⟨3, _⟩ => ⟨S3072x256, .i8⟩
  | .local _ .vmem, ⟨4, _⟩ => ⟨S3072x256, .i8⟩
  | .local _ .vmem, ⟨5, _⟩ => ⟨S96x256, .f32⟩
  | .local _ .vmem, ⟨6, _⟩ => ⟨S96x256, .f32⟩
  | .local _ .vmem, ⟨7, _⟩ => ⟨S96x256, .f32⟩
  | .local _ .vmem, ⟨8, _⟩ => ⟨S96x256, .f32⟩
  | .local _ .vmem, ⟨9, _⟩ => ⟨S1920x256, .bf16⟩
  | .local _ .vmem, ⟨10, _⟩ => ⟨S1920x256, .bf16⟩
  | .local _ .vmem, ⟨11, _⟩ => ⟨S1920x256, .bf16⟩
  | .local _ .vmem, ⟨12, _⟩ => ⟨S1920x256, .bf16⟩
  | .local _ .vmem, ⟨13, _⟩ => ⟨S1920x256, .f32⟩
  | .local _ .vmem, ⟨14, _⟩ => ⟨S1920x256, .f32⟩
  | .local _ .vmem, ⟨15, _⟩ => ⟨S1920x256, .f32⟩
  | .local _ .vmem, ⟨16, _⟩ => ⟨S1920x256, .f32⟩
  | .local _ .vmem, ⟨17, _⟩ => ⟨S1920x3072, .bf16⟩
  | .local _ .vmem, ⟨18, _⟩ => ⟨S3072x512, .bf16⟩
  | _, _ => ⟨S1920x3072, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

abbrev stage0_0 : Fin 1 → Memref sig .tc .vmem S1920x3072 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1920x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1920x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3072x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S96x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1920x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1920x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1920x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1920x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OProjRefIdeal.lean ====
abbrev S1920x3072 : Shape := ⟨2, ![1920, 3072]⟩
abbrev S1920x128 : Shape := ⟨2, ![1920, 128]⟩
abbrev S3072x1536 : Shape := ⟨2, ![3072, 1536]⟩
abbrev S96x3072 : Shape := ⟨2, ![96, 3072]⟩
abbrev S1920x1 : Shape := ⟨2, ![1920, 1]⟩
abbrev S_ : Shape := ⟨0, ![]⟩
abbrev S96x1536 : Shape := ⟨2, ![96, 1536]⟩
abbrev S96x32x1536 : Shape := ⟨3, ![96, 32, 1536]⟩
abbrev S96x1x1536 : Shape := ⟨3, ![96, 1, 1536]⟩
abbrev S1920x1536 : Shape := ⟨2, ![1920, 1536]⟩

abbrev nBuf : Space → Nat
  | .hbm => 62
  | .vmem => 0
  | .smem => 0
  | _ => 0

abbrev bufTy : (tb : Table) → Fin (tcTables nBuf tb) → BufTy
  | .hbm, ⟨0, _⟩ => ⟨S1920x3072, .i8⟩
  | .hbm, ⟨1, _⟩ => ⟨S1920x128, .f32⟩
  | .hbm, ⟨2, _⟩ => ⟨S1920x128, .f32⟩
  | .hbm, ⟨3, _⟩ => ⟨S3072x1536, .i8⟩
  | .hbm, ⟨4, _⟩ => ⟨S96x3072, .f32⟩
  | .hbm, ⟨5, _⟩ => ⟨S1920x3072, .bf16⟩
  | .hbm, ⟨6, _⟩ => ⟨S1920x3072, .f32⟩
  | .hbm, ⟨7, _⟩ => ⟨S1920x3072, .i32⟩
  | .hbm, ⟨8, _⟩ => ⟨S1920x3072, .f32⟩
  | .hbm, ⟨9, _⟩ => ⟨S1920x1, .f32⟩
  | .hbm, ⟨10, _⟩ => ⟨S1920x3072, .f32⟩
  | .hbm, ⟨11, _⟩ => ⟨S1920x3072, .f32⟩
  | .hbm, ⟨12, _⟩ => ⟨S1920x3072, .bf16⟩
  | .hbm, ⟨13, _⟩ => ⟨S3072x1536, .i32⟩
  | .hbm, ⟨14, _⟩ => ⟨S_, .i32⟩
  | .hbm, ⟨15, _⟩ => ⟨S3072x1536, .i32⟩
  | .hbm, ⟨16, _⟩ => ⟨S3072x1536, .i32⟩
  | .hbm, ⟨17, _⟩ => ⟨S96x1536, .f32⟩
  | .hbm, ⟨18, _⟩ => ⟨S_, .i32⟩
  | .hbm, ⟨19, _⟩ => ⟨S3072x1536, .i32⟩
  | .hbm, ⟨20, _⟩ => ⟨S3072x1536, .i1⟩
  | .hbm, ⟨21, _⟩ => ⟨S_, .i32⟩
  | .hbm, ⟨22, _⟩ => ⟨S3072x1536, .i32⟩
  | .hbm, ⟨23, _⟩ => ⟨S3072x1536, .i32⟩
  | .hbm, ⟨24, _⟩ => ⟨S3072x1536, .i32⟩
  | .hbm, ⟨25, _⟩ => ⟨S3072x1536, .bf16⟩
  | .hbm, ⟨26, _⟩ => ⟨S96x32x1536, .bf16⟩
  | .hbm, ⟨27, _⟩ => ⟨S96x1536, .bf16⟩
  | .hbm, ⟨28, _⟩ => ⟨S96x1x1536, .bf16⟩
  | .hbm, ⟨29, _⟩ => ⟨S96x32x1536, .bf16⟩
  | .hbm, ⟨30, _⟩ => ⟨S96x32x1536, .bf16⟩
  | .hbm, ⟨31, _⟩ => ⟨S3072x1536, .bf16⟩
  | .hbm, ⟨32, _⟩ => ⟨S_, .i32⟩
  | .hbm, ⟨33, _⟩ => ⟨S3072x1536, .i32⟩
  | .hbm, ⟨34, _⟩ => ⟨S3072x1536, .i32⟩
  | .hbm, ⟨35, _⟩ => ⟨S96x1536, .f32⟩
  | .hbm, ⟨36, _⟩ => ⟨S_, .i32⟩
  | .hbm, ⟨37, _⟩ => ⟨S3072x1536, .i32⟩
  | .hbm, ⟨38, _⟩ => ⟨S3072x1536, .i1⟩
  | .hbm, ⟨39, _⟩ => ⟨S_, .i32⟩
  | .hbm, ⟨40, _⟩ => ⟨S3072x1536, .i32⟩
  | .hbm, ⟨41, _⟩ => ⟨S3072x1536, .i32⟩
  | .hbm, ⟨42, _⟩ => ⟨S3072x1536, .i32⟩
  | .hbm, ⟨43, _⟩ => ⟨S3072x1536, .bf16⟩
  | .hbm, ⟨44, _⟩ => ⟨S96x32x1536, .bf16⟩
  | .hbm, ⟨45, _⟩ => ⟨S96x1536, .bf16⟩
  | .hbm, ⟨46, _⟩ => ⟨S96x1x1536, .bf16⟩
  | .hbm, ⟨47, _⟩ => ⟨S96x32x1536, .bf16⟩
  | .hbm, ⟨48, _⟩ => ⟨S96x32x1536, .bf16⟩
  | .hbm, ⟨49, _⟩ => ⟨S3072x1536, .bf16⟩
  | .hbm, ⟨50, _⟩ => ⟨S1920x1536, .f32⟩
  | .hbm, ⟨51, _⟩ => ⟨S1920x1, .f32⟩
  | .hbm, ⟨52, _⟩ => ⟨S1920x1536, .f32⟩
  | .hbm, ⟨53, _⟩ => ⟨S1920x1536, .f32⟩
  | .hbm, ⟨54, _⟩ => ⟨S1920x1536, .f32⟩
  | .hbm, ⟨55, _⟩ => ⟨S1920x1, .f32⟩
  | .hbm, ⟨56, _⟩ => ⟨S1920x1536, .f32⟩
  | .hbm, ⟨57, _⟩ => ⟨S1920x1536, .f32⟩
  | .hbm, ⟨58, _⟩ => ⟨S1920x1536, .f32⟩
  | .hbm, ⟨59, _⟩ => ⟨S1920x1536, .f32⟩
  | .hbm, ⟨60, _⟩ => ⟨S1920x1536, .f32⟩
  | .hbm, ⟨61, _⟩ => ⟨S1920x1536, .f32⟩
  | _, _ => ⟨S1920x3072, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_2 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_v26 : Ref sig .tc := ⟨.hbm, 37, rfl⟩
abbrev main_v27 : Ref sig .tc := ⟨.hbm, 38, rfl⟩
abbrev main_c_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩

abbrev nD : Nat := 1
abbrev τ : Topo := Topo.v7x

variable {F : FTy → Type} [FloatOps F]
-- ==== Proof.Int4.lean ====
/-
  Packed 4-bit weights, over the extended reals.

  A byte holds two signed 4-bit numbers, `nibLo` in its low half and `nibHi` in its high half. The kernels here unpack
  thirty-two rows at a time: four rows of bytes are read as one 32-bit word, the word is shifted and masked, read as bytes
  again, converted and scaled by 1/16. `loTile_apply` / `hiTile_apply` say that what comes out at a place is the signed
  nibble times the scale of the group. `loPiece` / `hiPiece` say it of the block as a kernel stores it. `ref_lo` /
  `ref_hi` are the plain route (widen, mask or shift, subtract sixteen when eight or more) at a place.
-/
module

public import Idealize.ShloMosaic.Lib.Pipeline.ValueKit
public import Idealize.ShloMosaic.Lib.Pipeline.ReadBack
public import Idealize.ShloMosaic.Lib.Pointwise
public import Idealize.ShloMosaic.Lib.BitcastFour
public import Idealize.ShloMosaic.Lib.WholeRead

@[expose] public section

set_option maxRecDepth 16384

noncomputable section

namespace Int4

open Idealize.ShloMosaic

/-- The signed 4-bit number in the low half of a byte. -/
def nibLo (b : BitVec 8) : ℤ := if 8 ≤ b.toNat % 16 then (b.toNat % 16 : ℕ) - 16 else (b.toNat % 16 : ℕ)

/-- The signed 4-bit number in the high half of a byte. -/
def nibHi (b : BitVec 8) : ℤ := if 8 ≤ b.toNat / 16 then (b.toNat / 16 : ℕ) - 16 else (b.toNat / 16 : ℕ)

/-- A byte shifted up by four, its low half cleared, is sixteen times its low nibble. -/
theorem toInt_lo : ∀ b : BitVec 8, ((b <<< 4) &&& 0xF0#8).toInt = 16 * nibLo b := by decide +kernel

/-- A byte with its low half cleared is sixteen times its high nibble. -/
theorem toInt_hi : ∀ b : BitVec 8, (b &&& 0xF0#8).toInt = 16 * nibHi b := by decide +kernel

/-- The plain reading of the low nibble: mask, then subtract sixteen when eight or more. -/
theorem ref_lo (b : BitVec 8) :
    (Scalar.select (IntOp.cmpi .sge (IntOp.andi (b.setWidth 32) 15#32) 8#32)
      (IntOp.subi (IntOp.andi (b.setWidth 32) 15#32) 16#32) (IntOp.andi (b.setWidth 32) 15#32)).toInt = nibLo b := by
  revert b; decide +kernel

/-- The plain reading of the high nibble: shift down by four, then subtract sixteen when eight or more. -/
theorem ref_hi (b : BitVec 8) :
    (Scalar.select (IntOp.cmpi .sge (IntOp.shrsi .host (b.setWidth 32) 4#32) 8#32)
      (IntOp.subi (IntOp.shrsi .host (b.setWidth 32) 4#32) 16#32) (IntOp.shrsi .host (b.setWidth 32) 4#32)).toInt
      = nibHi b := by
  revert b; decide +kernel

/-- The bit mask that keeps the high half of each of the four bytes of a word. -/
theorem mask_bit (q : ℕ) (hq : q < 32) : (4042322160#32 : BitVec 32).getLsbD q = decide (4 ≤ q % 8) := by
  interval_cases q <;> rfl

/-- The mask of one byte. -/
theorem mask8_bit (i : ℕ) (hi : i < 8) : (0xF0#8 : BitVec 8).getLsbD i = decide (4 ≤ i) := by
  interval_cases i <;> rfl

/-- Words read as bytes again: bit `i` of result row `p` is bit `8 (p mod 4) + i` of source row `p / 4`. -/
theorem bitcast_32_8_bit {R r n : ℕ} (x : (⟨2, ![r, n]⟩ : Shape).Idx → BitVec 32)
    (h : (⟨2, ![r, n]⟩ : Shape).Bitcasts 32 ⟨2, ![R, n]⟩ 8) (p : Fin R) (l : Fin n) (i : ℕ) (hi : i < 8) (a : Fin r)
    (ha : a.val = p.val / 4) :
    (bitcast ⟨2, ![R, n]⟩ 8 x h (ValueIdx.ix2 p l)).getLsbD i = (x (ValueIdx.ix2 a l)).getLsbD (8 * (p.val % 4) + i) := by
  rw [bitcast_getLsbD x h _ i hi (by decide)]
  have hrow : (⟨2, ![R, n]⟩ : Shape).row (ValueIdx.ix2 p l) = p.val := rfl
  have e1 : ((⟨2, ![R, n]⟩ : Shape).row (ValueIdx.ix2 p l) * 8 + i) % 32 = 8 * (p.val % 4) + i := by rw [hrow]; omega
  rw [e1]
  congr 2
  funext c
  match c with
  | ⟨0, _⟩ =>
    refine Fin.ext ((h.srcIdx_row _ _ _ ⟨0, Nat.zero_lt_two⟩ rfl).trans ?_)
    rw [hrow]; show (p.val * 8 + i) / 32 = a.val; omega
  | ⟨1, _⟩ => exact Fin.ext (h.srcIdx_other _ _ _ ⟨1, Nat.one_lt_two⟩ (by show ¬ 1 + 2 = 2; omega))

/-- Bytes read as words, masked, read as bytes: each byte masked. -/
theorem words_hi {R r n : ℕ} (hR : R = 4 * r) (w : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (p : Fin R) (l : Fin n) :
    bitcast ⟨2, ![R, n]⟩ 8 (andi (bitcast ⟨2, ![r, n]⟩ 32 w h) (broadcast ⟨2, ![r, n]⟩ 4042322160#32)) h' (ValueIdx.ix2 p l)
      = w (ValueIdx.ix2 p l) &&& 0xF0#8 := by
  apply BitVec.eq_of_getLsbD_eq
  intro i hi
  have hp := p.isLt
  rw [bitcast_32_8_bit _ h' p l i hi ⟨p.val / 4, by omega⟩ rfl]
  show (bitcast ⟨2, ![r, n]⟩ 32 w h (ValueIdx.ix2 ⟨p.val / 4, by omega⟩ l) &&& 4042322160#32).getLsbD (8 * (p.val % 4) + i) = _
  rw [BitVec.getLsbD_and, BitVec.getLsbD_and, mask_bit _ (by omega), mask8_bit _ hi,
    bitcast_8_32_getLsbD_ix2 w h _ l _ (by omega) p (by show p.val = 4 * (p.val / 4) + _; omega)]
  have e : (8 * (p.val % 4) + i) % 8 = i := by omega
  rw [e]

/-- Bytes read as words, shifted up by four bits and masked, read as bytes: each byte shifted and masked. -/
theorem words_lo {R r n : ℕ} (hR : R = 4 * r) (w : (⟨2, ![R, n]⟩ : Shape).Idx → BitVec 8)
    (h : (⟨2, ![R, n]⟩ : Shape).Bitcasts 8 ⟨2, ![r, n]⟩ 32) (h' : (⟨2, ![r, n]⟩ : Shape).Bitcasts 32 ⟨2, ![R, n]⟩ 8)
    (p : Fin R) (l : Fin n) :
    bitcast ⟨2, ![R, n]⟩ 8 (andi (shli (bitcast ⟨2, ![r, n]⟩ 32 w h) (broadcast ⟨2, ![r, n]⟩ 4#32))
      (broadcast ⟨2, ![r, n]⟩ 4042322160#32)) h' (ValueIdx.ix2 p l)
      = (w (ValueIdx.ix2 p l) <<< 4) &&& 0xF0#8 := by
  apply BitVec.eq_of_getLsbD_eq
  intro i hi
  have hp := p.isLt
  rw [bitcast_32_8_bit _ h' p l i hi ⟨p.val / 4, by omega⟩ rfl]
  show ((bitcast ⟨2, ![r, n]⟩ 32 w h (ValueIdx.ix2 ⟨p.val / 4, by omega⟩ l) <<< 4) &&& 4042322160#32).getLsbD (8 * (p.val % 4) + i) = _
  rw [BitVec.getLsbD_and, BitVec.getLsbD_and, mask_bit _ (by omega), mask8_bit _ hi]
  have e : (8 * (p.val % 4) + i) % 8 = i := by omega
  rw [e]
  by_cases h4 : 4 ≤ i
  · rw [BitVec.getLsbD_shiftLeft, BitVec.getLsbD_shiftLeft,
      bitcast_8_32_getLsbD_ix2 w h _ l _ (by omega) p (by show p.val = 4 * (p.val / 4) + _; omega)]
    have e2 : (8 * (p.val % 4) + i - 4) % 8 = i - 4 := by omega
    rw [e2]
    simp [hi, h4, show ¬ 8 * (p.val % 4) + i < 4 by omega, show ¬ i < 4 by omega, show 8 * (p.val % 4) + i < 32 by omega]
  · simp [h4]

/-- The bfloat16 constant of the unpacking is one sixteenth. -/
theorem sixteenth : (FloatOps.ofBits (F := Ideal) .bf16 0x3D80#16 : EReal) = ((1 / 16 : ℝ) : EReal) := by
  show Ideal.ofBits .bf16 0x3D80#16 = _
  have e1 : (0x3D80#16 : BitVec 16).toNat / 2 ^ 7 % 2 ^ 8 = 123 := by decide
  simp [Ideal.ofBits, Ideal.ieee]
  rw [← EReal.coe_mul]
  norm_num

/-- Sixteen times a nibble, scaled by a sixteenth, is the nibble. -/
theorem unscale (z : ℤ) : (((16 * z : ℤ) : ℝ) : EReal) * ((1 / 16 : ℝ) : EReal) = ((z : ℝ) : EReal) := by
  rw [← EReal.coe_mul]
  congr 1
  push_cast
  ring

variable {n : ℕ}

/-- The low-nibble block of thirty-two rows as a kernel computes it: bytes `w`, one row of scales `s`. -/
def loTile (h : (⟨2, ![32, n]⟩ : Shape).Bitcasts 8 ⟨2, ![8, n]⟩ 32) (h' : (⟨2, ![8, n]⟩ : Shape).Bitcasts 32 ⟨2, ![32, n]⟩ 8)
    (hc : (⟨2, ![1, n]⟩ : Shape).ShapeCasts ⟨2, ![1, n]⟩) (hb : (⟨2, ![1, n]⟩ : Shape).Broadcasts ⟨2, ![32, n]⟩)
    (hc' : (⟨2, ![32, n]⟩ : Shape).ShapeCasts ⟨2, ![32, n]⟩) (ht : FTy.bf16.bits < FTy.f32.bits)
    (w : Vec Ideal ⟨2, ![32, n]⟩ .i8) (s : Vec Ideal ⟨2, ![1, n]⟩ .f32) : FVec Ideal ⟨2, ![32, n]⟩ .bf16 :=
  shapeCast ⟨2, ![32, n]⟩ (mulf (mulf (sitofp .bf16 (bitcast ⟨2, ![32, n]⟩ 8 (andi (shli (bitcast ⟨2, ![8, n]⟩ 32 w h)
    (broadcast ⟨2, ![8, n]⟩ 4#32)) (broadcast ⟨2, ![8, n]⟩ 4042322160#32)) h')) (broadcast ⟨2, ![32, n]⟩ (Scalar.ofBits .bf16 0x3D80#16)))
    (truncf .bf16 (broadcastTo ⟨2, ![32, n]⟩ (shapeCast ⟨2, ![1, n]⟩ s hc) hb) ht)) hc'

/-- The high-nibble block of thirty-two rows as a kernel computes it. -/
def hiTile (h : (⟨2, ![32, n]⟩ : Shape).Bitcasts 8 ⟨2, ![8, n]⟩ 32) (h' : (⟨2, ![8, n]⟩ : Shape).Bitcasts 32 ⟨2, ![32, n]⟩ 8)
    (hc : (⟨2, ![1, n]⟩ : Shape).ShapeCasts ⟨2, ![1, n]⟩) (hb : (⟨2, ![1, n]⟩ : Shape).Broadcasts ⟨2, ![32, n]⟩)
    (hc' : (⟨2, ![32, n]⟩ : Shape).ShapeCasts ⟨2, ![32, n]⟩) (ht : FTy.bf16.bits < FTy.f32.bits)
    (w : Vec Ideal ⟨2, ![32, n]⟩ .i8) (s : Vec Ideal ⟨2, ![1, n]⟩ .f32) : FVec Ideal ⟨2, ![32, n]⟩ .bf16 :=
  shapeCast ⟨2, ![32, n]⟩ (mulf (mulf (sitofp .bf16 (bitcast ⟨2, ![32, n]⟩ 8 (andi (bitcast ⟨2, ![8, n]⟩ 32 w h)
    (broadcast ⟨2, ![8, n]⟩ 4042322160#32)) h')) (broadcast ⟨2, ![32, n]⟩ (Scalar.ofBits .bf16 0x3D80#16)))
    (truncf .bf16 (broadcastTo ⟨2, ![32, n]⟩ (shapeCast ⟨2, ![1, n]⟩ s hc) hb) ht)) hc'

/-- One row spread over thirty-two, read at a place. -/
theorem spread_row (hb : (⟨2, ![1, n]⟩ : Shape).Broadcasts ⟨2, ![32, n]⟩) (s : (⟨2, ![1, n]⟩ : Shape).Idx → EReal)
    (p : Fin 32) (l : Fin n) : broadcastTo ⟨2, ![32, n]⟩ s hb (ValueIdx.ix2 p l) = s (ValueIdx.ix2 0 l) := by
  unfold broadcastTo
  congr 1
  funext a
  match a with
  | ⟨0, _⟩ => rfl
  | ⟨1, _⟩ =>
    apply Fin.ext
    have hl := l.isLt
    dsimp only
    split
    · rename_i h1
      have h1' : n = 1 := h1
      show 0 = l.val
      omega
    · rfl

/-- The low-nibble block at a place: the signed low nibble times the scale of the column. -/
theorem loTile_apply (h h' hc hb hc' ht) (w : Vec Ideal ⟨2, ![32, n]⟩ .i8) (s : Vec Ideal ⟨2, ![1, n]⟩ .f32) (p : Fin 32) (l : Fin n) :
    loTile h h' hc hb hc' ht w s (ValueIdx.ix2 p l)
      = (((nibLo (w (ValueIdx.ix2 p l)) : ℤ) : ℝ) : EReal) * (s (ValueIdx.ix2 0 l) : EReal) := by
  unfold loTile
  rw [shapeCast_id, shapeCast_id]
  show ((((bitcast ⟨2, ![32, n]⟩ 8 (andi (shli (bitcast ⟨2, ![8, n]⟩ 32 w h)
    (broadcast ⟨2, ![8, n]⟩ 4#32)) (broadcast ⟨2, ![8, n]⟩ 4042322160#32)) h' (ValueIdx.ix2 p l)).toInt : ℝ) : EReal)
      * FloatOps.ofBits (F := Ideal) .bf16 0x3D80#16) * broadcastTo ⟨2, ![32, n]⟩ s hb (ValueIdx.ix2 p l) = _
  rw [words_lo (R := 32) (r := 8) rfl, toInt_lo, sixteenth, unscale, spread_row hb]

/-- The high-nibble block at a place: the signed high nibble times the scale of the column. -/
theorem hiTile_apply (h h' hc hb hc' ht) (w : Vec Ideal ⟨2, ![32, n]⟩ .i8) (s : Vec Ideal ⟨2, ![1, n]⟩ .f32) (p : Fin 32) (l : Fin n) :
    hiTile h h' hc hb hc' ht w s (ValueIdx.ix2 p l)
      = (((nibHi (w (ValueIdx.ix2 p l)) : ℤ) : ℝ) : EReal) * (s (ValueIdx.ix2 0 l) : EReal) := by
  unfold hiTile
  rw [shapeCast_id, shapeCast_id]
  show ((((bitcast ⟨2, ![32, n]⟩ 8 (andi (bitcast ⟨2, ![8, n]⟩ 32 w h)
    (broadcast ⟨2, ![8, n]⟩ 4042322160#32)) h' (ValueIdx.ix2 p l)).toInt : ℝ) : EReal)
      * FloatOps.ofBits (F := Ideal) .bf16 0x3D80#16) * broadcastTo ⟨2, ![32, n]⟩ s hb (ValueIdx.ix2 p l) = _
  rw [words_hi (R := 32) (r := 8) rfl, toInt_hi, sixteenth, unscale, spread_row hb]

/-! ## The whole tile of weights -/

variable {K G N : ℕ}

/-- A tile of weights: columns below `n` are the low nibbles of the bytes `wl` with scales `sl`, columns from `n` the high
    nibbles of `wh` with scales `sh`; thirty-two rows share a row of scales. -/
def wMat (hG : K = 32 * G) (hN : N = n + n) (wl wh : (⟨2, ![K, n]⟩ : Shape).Idx → BitVec 8)
    (sl sh : (⟨2, ![G, n]⟩ : Shape).Idx → EReal) (y : (⟨2, ![K, N]⟩ : Shape).Idx) : EReal :=
  if hn : (y 1).val < n then
    (((nibLo (wl (ValueIdx.ix2 (y 0) ⟨(y 1).val, hn⟩)) : ℤ) : ℝ) : EReal)
      * sl (ValueIdx.ix2 ⟨(y 0).val / 32, by have := ValueIdx.idx2_lt0 y; omega⟩ ⟨(y 1).val, hn⟩)
  else
    (((nibHi (wh (ValueIdx.ix2 (y 0) ⟨(y 1).val - n, by have := ValueIdx.idx2_lt1 y; omega⟩)) : ℤ) : ℝ) : EReal)
      * sh (ValueIdx.ix2 ⟨(y 0).val / 32, by have := ValueIdx.idx2_lt0 y; omega⟩ ⟨(y 1).val - n, by have := ValueIdx.idx2_lt1 y; omega⟩)

/-- The tile of weights in its low half. -/
theorem wMat_lo (hG : K = 32 * G) (hN : N = n + n) (wl wh : (⟨2, ![K, n]⟩ : Shape).Idx → BitVec 8)
    (sl sh : (⟨2, ![G, n]⟩ : Shape).Idx → EReal) (y : (⟨2, ![K, N]⟩ : Shape).Idx) (k : Fin K) (l : Fin n) (g : Fin G)
    (h0 : (y 0).val = k.val) (h1 : (y 1).val = l.val) (hg : g.val = k.val / 32) :
    wMat hG hN wl wh sl sh y = (((nibLo (wl (ValueIdx.ix2 k l)) : ℤ) : ℝ) : EReal) * sl (ValueIdx.ix2 g l) := by
  unfold wMat
  rw [dif_pos (show (y 1).val < n by rw [h1]; exact l.isLt)]
  have e0 : y 0 = k := Fin.ext h0
  have e1 : ∀ h, (⟨(y 1).val, h⟩ : Fin n) = l := fun h => Fin.ext h1
  have eg : ∀ h, (⟨(y 0).val / 32, h⟩ : Fin G) = g := fun h => Fin.ext (by show (y 0).val / 32 = _; rw [h0, hg])
  rw [e1, eg, e0]

/-- The tile of weights in its high half. -/
theorem wMat_hi (hG : K = 32 * G) (hN : N = n + n) (wl wh : (⟨2, ![K, n]⟩ : Shape).Idx → BitVec 8)
    (sl sh : (⟨2, ![G, n]⟩ : Shape).Idx → EReal) (y : (⟨2, ![K, N]⟩ : Shape).Idx) (k : Fin K) (l : Fin n) (g : Fin G)
    (h0 : (y 0).val = k.val) (h1 : (y 1).val = n + l.val) (hg : g.val = k.val / 32) :
    wMat hG hN wl wh sl sh y = (((nibHi (wh (ValueIdx.ix2 k l)) : ℤ) : ℝ) : EReal) * sh (ValueIdx.ix2 g l) := by
  unfold wMat
  rw [dif_neg (show ¬ (y 1).val < n by rw [h1]; omega)]
  have e0 : y 0 = k := Fin.ext h0
  have e1 : ∀ h, (⟨(y 1).val - n, h⟩ : Fin n) = l := fun h => Fin.ext (by show (y 1).val - n = _; omega)
  have eg : ∀ h, (⟨(y 0).val / 32, h⟩ : Fin G) = g := fun h => Fin.ext (by show (y 0).val / 32 = _; rw [h0, hg])
  rw [e1, eg, e0]

section Pieces

variable {sig : RefSig}
variable (hG : K = 32 * G) (hN : N = n + n) (wl wh : Vec Ideal ⟨2, ![K, n]⟩ .i8) (sl sh : Vec Ideal ⟨2, ![G, n]⟩ .f32)

/-- The low-nibble block of group `g`, as a kernel stores it, is that block of the tile. -/
theorem loPiece (h h' hc hb hc' ht) (o g : ℕ) (ho : o = 32 * g)
    (M : Memref sig .tc .vmem ⟨2, ![K, n]⟩ .i8) (hM : M.IsWhole) (M' : Memref sig .tc .vmem ⟨2, ![G, n]⟩ .f32) (hM' : M'.IsWhole)
    (inb : ∀ a, (![o, 0] : Fin 2 → ℕ) a + (![32, n] : Fin 2 → ℕ) a ≤ (⟨2, ![K, n]⟩ : Shape).size a)
    (inb' : ∀ a, (![g, 0] : Fin 2 → ℕ) a + (![1, n] : Fin 2 → ℕ) a ≤ (⟨2, ![G, n]⟩ : Shape).size a)
    (inb'' : ∀ a, (![o, 0] : Fin 2 → ℕ) a + (![32, n] : Fin 2 → ℕ) a ≤ (⟨2, ![K, N]⟩ : Shape).size a)
    (x : (⟨2, ![32, n]⟩ : Shape).Idx) :
    loTile h h' hc hb hc' ht
      (View.readAt (Elt Ideal) M.view (Rect.unit (s := ⟨2, ![K, n]⟩) ![o, 0] ![32, n] inb).toLoadRect (hM.unread wl))
      (View.readAt (Elt Ideal) M'.view (Rect.unit (s := ⟨2, ![G, n]⟩) ![g, 0] ![1, n] inb').toLoadRect (hM'.unread sl)) x
      = wMat hG hN wl wh sl sh ((Rect.unit (s := ⟨2, ![K, N]⟩) ![o, 0] ![32, n] inb'').emb x) := by
  obtain ⟨p, l, rfl⟩ : ∃ (p : Fin 32) (l : Fin n), x = ValueIdx.ix2 p l := ⟨x 0, x 1, ValueIdx.eq_ix2 x⟩
  have hp := p.isLt
  have hg : g < G := by have := inb' 0; have : g + 1 ≤ G := this; omega
  rw [loTile_apply, hM.readAt_unread, hM'.readAt_unread,
    wMat_lo hG hN wl wh sl sh _ ⟨o + p.val, by omega⟩ l ⟨g, hg⟩
      (by rw [Rect.emb_apply]; show o + 1 * p.val = o + p.val; omega)
      (by rw [Rect.emb_apply]; show 0 + 1 * l.val = _; omega) (by show g = (o + p.val) / 32; subst ho; omega)]
  have e0 : ∀ y : (⟨2, ![K, n]⟩ : Shape).Idx, (y 0).val = o + p.val → (y 1).val = l.val → y = ValueIdx.ix2 ⟨o + p.val, by omega⟩ l := by
    intro y h0 h1
    funext a; apply Fin.ext
    match a with
    | ⟨0, _⟩ => exact h0
    | ⟨1, _⟩ => exact h1
  have e1 : ∀ y : (⟨2, ![G, n]⟩ : Shape).Idx, (y 0).val = g → (y 1).val = l.val → y = ValueIdx.ix2 ⟨g, hg⟩ l := by
    intro y h0 h1
    funext a; apply Fin.ext
    match a with
    | ⟨0, _⟩ => exact h0
    | ⟨1, _⟩ => exact h1
  congr 1
  · congr 4
    exact e0 _ (by show o + 1 * p.val = _; omega) (by show 0 + 1 * l.val = _; omega)
  · congr 1
    exact e1 _ (by show g + 1 * 0 = _; omega) (by show 0 + 1 * l.val = _; omega)

/-- The high-nibble block of group `g`, as a kernel stores it, is that block of the tile. -/
theorem hiPiece (h h' hc hb hc' ht) (o g c : ℕ) (ho : o = 32 * g) (hcn : c = n)
    (M : Memref sig .tc .vmem ⟨2, ![K, n]⟩ .i8) (hM : M.IsWhole) (M' : Memref sig .tc .vmem ⟨2, ![G, n]⟩ .f32) (hM' : M'.IsWhole)
    (inb : ∀ a, (![o, 0] : Fin 2 → ℕ) a + (![32, n] : Fin 2 → ℕ) a ≤ (⟨2, ![K, n]⟩ : Shape).size a)
    (inb' : ∀ a, (![g, 0] : Fin 2 → ℕ) a + (![1, n] : Fin 2 → ℕ) a ≤ (⟨2, ![G, n]⟩ : Shape).size a)
    (inb'' : ∀ a, (![o, c] : Fin 2 → ℕ) a + (![32, n] : Fin 2 → ℕ) a ≤ (⟨2, ![K, N]⟩ : Shape).size a)
    (x : (⟨2, ![32, n]⟩ : Shape).Idx) :
    hiTile h h' hc hb hc' ht
      (View.readAt (Elt Ideal) M.view (Rect.unit (s := ⟨2, ![K, n]⟩) ![o, 0] ![32, n] inb).toLoadRect (hM.unread wh))
      (View.readAt (Elt Ideal) M'.view (Rect.unit (s := ⟨2, ![G, n]⟩) ![g, 0] ![1, n] inb').toLoadRect (hM'.unread sh)) x
      = wMat hG hN wl wh sl sh ((Rect.unit (s := ⟨2, ![K, N]⟩) ![o, c] ![32, n] inb'').emb x) := by
  obtain ⟨p, l, rfl⟩ : ∃ (p : Fin 32) (l : Fin n), x = ValueIdx.ix2 p l := ⟨x 0, x 1, ValueIdx.eq_ix2 x⟩
  have hp := p.isLt
  have hg : g < G := by have := inb' 0; have : g + 1 ≤ G := this; omega
  rw [hiTile_apply, hM.readAt_unread, hM'.readAt_unread,
    wMat_hi hG hN wl wh sl sh _ ⟨o + p.val, by omega⟩ l ⟨g, hg⟩
      (by rw [Rect.emb_apply]; show o + 1 * p.val = o + p.val; omega)
      (by rw [Rect.emb_apply]; show c + 1 * l.val = _; omega) (by show g = (o + p.val) / 32; subst ho; omega)]
  have e0 : ∀ y : (⟨2, ![K, n]⟩ : Shape).Idx, (y 0).val = o + p.val → (y 1).val = l.val → y = ValueIdx.ix2 ⟨o + p.val, by omega⟩ l := by
    intro y h0 h1
    funext a; apply Fin.ext
    match a with
    | ⟨0, _⟩ => exact h0
    | ⟨1, _⟩ => exact h1
  have e1 : ∀ y : (⟨2, ![G, n]⟩ : Shape).Idx, (y 0).val = g → (y 1).val = l.val → y = ValueIdx.ix2 ⟨g, hg⟩ l := by
    intro y h0 h1
    funext a; apply Fin.ext
    match a with
    | ⟨0, _⟩ => exact h0
    | ⟨1, _⟩ => exact h1
  congr 1
  · congr 4
    exact e0 _ (by show o + 1 * p.val = _; omega) (by show 0 + 1 * l.val = _; omega)
  · congr 1
    exact e1 _ (by show g + 1 * 0 = _; omega) (by show 0 + 1 * l.val = _; omega)

/-- A load of the whole of a buffer filled by blocks of one array `A` reads `A`. -/
theorem readCov_whole {S : Shape} {e : EltTy} (v : View sig .tc .vmem S e) (L : List (View.Piece (Elt Ideal) S e)) (off : Fin S.rank → ℕ)
    (inb : ∀ a, off a + S.size a ≤ S.size a) (A : S.Idx → Elt Ideal e) (hP : View.PiecesOf A L)
    (hc : ∀ y, ∃ p ∈ L, y ∈ p.1.set) : v.readCov L (Rect.unit (s := S) off S.size inb).toLoadRect = A := by
  rw [View.readCov_eq_canon']
  funext j
  have e : (Rect.unit (s := S) off S.size inb).toLoadRect.idx j = j := by
    funext a; apply Fin.ext
    have := inb a
    show off a + 1 * (j a).val = (j a).val
    omega
  rw [e]
  exact (View.canon_append_of_piecesOf A [] L hP j (hc j) : View.canon (L ++ []) j = A j) ▸ by rw [List.append_nil]

/-- The rows of group `g` lie in the tile. -/
theorem inb_rows {K G n N' : ℕ} (hG : K = 32 * G) {g c : ℕ} (hg : g + 1 ≤ G) (hc : c + n ≤ N') :
    ∀ a, (![32 * g, c] : Fin 2 → ℕ) a + (![32, n] : Fin 2 → ℕ) a ≤ (⟨2, ![K, N']⟩ : Shape).size a := fun a => by
  match a with
  | ⟨0, _⟩ => show 32 * g + 32 ≤ K; omega
  | ⟨1, _⟩ => exact hc

/-- Row `g` lies in the array of scales. -/
theorem inb_scale {G n : ℕ} {g : ℕ} (hg : g + 1 ≤ G) :
    ∀ a, (![g, 0] : Fin 2 → ℕ) a + (![1, n] : Fin 2 → ℕ) a ≤ (⟨2, ![G, n]⟩ : Shape).size a := fun a => by
  match a with
  | ⟨0, _⟩ => exact hg
  | ⟨1, _⟩ => show 0 + n ≤ n; omega

variable (h : (⟨2, ![32, n]⟩ : Shape).Bitcasts 8 ⟨2, ![8, n]⟩ 32) (h' : (⟨2, ![8, n]⟩ : Shape).Bitcasts 32 ⟨2, ![32, n]⟩ 8)
    (hc : (⟨2, ![1, n]⟩ : Shape).ShapeCasts ⟨2, ![1, n]⟩) (hb : (⟨2, ![1, n]⟩ : Shape).Broadcasts ⟨2, ![32, n]⟩)
    (hc' : (⟨2, ![32, n]⟩ : Shape).ShapeCasts ⟨2, ![32, n]⟩) (ht : FTy.bf16.bits < FTy.f32.bits)

/-- The blocks a kernel stores while it unpacks the first `g` groups, the last one first: for each group the high half's
    block, then the low half's. `M` holds the bytes, `M'` and `M''` the scales of the two halves. -/
def tilePieces (M : Memref sig .tc .vmem ⟨2, ![K, n]⟩ .i8) (hM : M.IsWhole)
    (M' : Memref sig .tc .vmem ⟨2, ![G, n]⟩ .f32) (hM' : M'.IsWhole) (M'' : Memref sig .tc .vmem ⟨2, ![G, n]⟩ .f32) (hM'' : M''.IsWhole)
    (g : ℕ) : g ≤ G → List (View.Piece (Elt Ideal) ⟨2, ![K, N]⟩ .bf16) :=
  Nat.rec (motive := fun g => g ≤ G → List (View.Piece (Elt Ideal) ⟨2, ![K, N]⟩ .bf16)) (fun _ => [])
    (fun g ih hg =>
      ⟨Rect.unit (s := ⟨2, ![K, N]⟩) ![32 * g, n] ![32, n] (inb_rows hG hg (le_of_eq hN.symm)),
        hiTile h h' hc hb hc' ht
          (View.readAt (Elt Ideal) M.view (Rect.unit (s := ⟨2, ![K, n]⟩) ![32 * g, 0] ![32, n] (inb_rows hG hg (le_of_eq (Nat.zero_add n)))).toLoadRect (hM.unread wl))
          (View.readAt (Elt Ideal) M''.view (Rect.unit (s := ⟨2, ![G, n]⟩) ![g, 0] ![1, n] (inb_scale hg)).toLoadRect (hM''.unread sh))⟩ ::
      ⟨Rect.unit (s := ⟨2, ![K, N]⟩) ![32 * g, 0] ![32, n] (inb_rows hG hg (by omega)),
        loTile h h' hc hb hc' ht
          (View.readAt (Elt Ideal) M.view (Rect.unit (s := ⟨2, ![K, n]⟩) ![32 * g, 0] ![32, n] (inb_rows hG hg (le_of_eq (Nat.zero_add n)))).toLoadRect (hM.unread wl))
          (View.readAt (Elt Ideal) M'.view (Rect.unit (s := ⟨2, ![G, n]⟩) ![g, 0] ![1, n] (inb_scale hg)).toLoadRect (hM'.unread sl))⟩ ::
      ih (Nat.le_of_succ_le hg)) g

/-- Every such block is a block of the tile of weights. -/
theorem tilePieces_of (M : Memref sig .tc .vmem ⟨2, ![K, n]⟩ .i8) (hM : M.IsWhole)
    (M' : Memref sig .tc .vmem ⟨2, ![G, n]⟩ .f32) (hM' : M'.IsWhole) (M'' : Memref sig .tc .vmem ⟨2, ![G, n]⟩ .f32) (hM'' : M''.IsWhole)
    (g : ℕ) (hg : g ≤ G) :
    View.PiecesOf (wMat hG hN wl wl sl sh) (tilePieces hG hN wl sl sh h h' hc hb hc' ht M hM M' hM' M'' hM'' g hg) := by
  induction g with
  | zero => exact trivial
  | succ g ih =>
    exact ⟨fun x => hiPiece hG hN wl wl sl sh h h' hc hb hc' ht _ _ _ rfl rfl M hM M'' hM''
      (inb_rows hG hg (le_of_eq (Nat.zero_add n))) (inb_scale hg) (inb_rows hG hg (le_of_eq hN.symm)) x,
      fun x => loPiece hG hN wl wl sl sh h h' hc hb hc' ht _ _ rfl M hM M' hM'
      (inb_rows hG hg (le_of_eq (Nat.zero_add n))) (inb_scale hg) (inb_rows hG hg (by omega)) x, ih _⟩

/-- The blocks of the first `g` groups cover the first `32 g` rows. -/
theorem tilePieces_cover (M : Memref sig .tc .vmem ⟨2, ![K, n]⟩ .i8) (hM : M.IsWhole)
    (M' : Memref sig .tc .vmem ⟨2, ![G, n]⟩ .f32) (hM' : M'.IsWhole) (M'' : Memref sig .tc .vmem ⟨2, ![G, n]⟩ .f32) (hM'' : M''.IsWhole)
    (g : ℕ) (hg : g ≤ G) (y : (⟨2, ![K, N]⟩ : Shape).Idx) (hy : (y 0).val < 32 * g) :
    ∃ p ∈ tilePieces hG hN wl sl sh h h' hc hb hc' ht M hM M' hM' M'' hM'' g hg, y ∈ p.1.set := by
  induction g with
  | zero => omega
  | succ g ih =>
    have hy1 := ValueIdx.idx2_lt1 y
    by_cases hlt : (y 0).val < 32 * g
    · obtain ⟨p, hp, hyp⟩ := ih (by omega) hlt
      exact ⟨p, List.mem_cons_of_mem _ (List.mem_cons_of_mem _ hp), hyp⟩
    · by_cases hn : (y 1).val < n
      · refine ⟨_, List.mem_cons_of_mem _ List.mem_cons_self,
          (Rect.mem_set_unit (inb := inb_rows hG hg (c := 0) (by omega))).mpr fun a => ?_⟩
        match a with
        | ⟨0, _⟩ => exact (show 32 * g ≤ (y 0).val ∧ (y 0).val < 32 * g + 32 by omega)
        | ⟨1, _⟩ => exact (show 0 ≤ (y 1).val ∧ (y 1).val < 0 + n by omega)
      · refine ⟨_, List.mem_cons_self, (Rect.mem_set_unit (inb := inb_rows hG hg (c := n) (by omega))).mpr fun a => ?_⟩
        match a with
        | ⟨0, _⟩ => exact (show 32 * g ≤ (y 0).val ∧ (y 0).val < 32 * g + 32 by omega)
        | ⟨1, _⟩ => exact (show n ≤ (y 1).val ∧ (y 1).val < n + n by omega)

/-- THE UNPACKED TILE. A load of the whole buffer that the blocks of all groups filled reads the tile of weights. -/
theorem readCov_tile (M : Memref sig .tc .vmem ⟨2, ![K, n]⟩ .i8) (hM : M.IsWhole)
    (M' : Memref sig .tc .vmem ⟨2, ![G, n]⟩ .f32) (hM' : M'.IsWhole) (M'' : Memref sig .tc .vmem ⟨2, ![G, n]⟩ .f32) (hM'' : M''.IsWhole)
    (v : View sig .tc .vmem ⟨2, ![K, N]⟩ .bf16) (L : List (View.Piece (Elt Ideal) ⟨2, ![K, N]⟩ .bf16)) (off : Fin 2 → ℕ)
    (inb : ∀ a, off a + (⟨2, ![K, N]⟩ : Shape).size a ≤ (⟨2, ![K, N]⟩ : Shape).size a)
    (hL : L = tilePieces hG hN wl sl sh h h' hc hb hc' ht M hM M' hM' M'' hM'' G le_rfl) :
    v.readCov L (Rect.unit (s := ⟨2, ![K, N]⟩) off (⟨2, ![K, N]⟩ : Shape).size inb).toLoadRect = wMat hG hN wl wl sl sh :=
  readCov_whole v L off inb _ (hL ▸ tilePieces_of hG hN wl sl sh h h' hc hb hc' ht M hM M' hM' M'' hM'' G le_rfl)
    (hL ▸ fun y => tilePieces_cover hG hN wl sl sh h h' hc hb hc' ht M hM M' hM' M'' hM'' G le_rfl y
      (by have := ValueIdx.idx2_lt0 y; omega))

end Pieces

end Int4
-- ==== Proof.Linear.lean ====
/-
  The product of centred 8-bit codes with packed 4-bit weights, over the extended reals.

  `codesMinusZero` is the array of codes less each row's zero point. `dotNib nib A W Sc off S r c` is the mathematics at
  row `r` and column `c`: the sum over `k` of `A(r,k)` times the signed nibble of byte `W(k,c)` times the scale of its group
  of thirty-two rows, all times the row's scale `S(r,0)`. `scaled_apply` reads a kernel's product of one block of rows,
  `tileDot_lo` / `tileDot_hi` bring the sum over a tile of weights to `dotNib`, and `refHalf_lo` / `refHalf_hi` read the
  plain composition of whole-array operations as `dotNib`.
-/
module

public import proofs.«01_k».proof.Proof.Int4
public import Idealize.ShloMosaic.Lib.MatmulPlain
public import Idealize.ShloMosaic.Lib.StackMember

@[expose] public section

set_option maxRecDepth 16384

noncomputable section

namespace Int4

open Idealize.ShloMosaic hiding ix2 ix3
open Idealize.ShloMosaic.ValueIdx
open scoped BigOperators

/-! ## The mathematics -/

/-- Codes less the zero point of their row. -/
def codesMinusZero {S K L : ℕ} (hL : 0 < L) (X : (⟨2, ![S, K]⟩ : Shape).Idx → BitVec 8) (Z : (⟨2, ![S, L]⟩ : Shape).Idx → EReal)
    (y : (⟨2, ![S, K]⟩ : Shape).Idx) : EReal := (((X y).toInt : ℝ) : EReal) - Z (ix2 (y 0) ⟨0, hL⟩)

/-- The product at row `r` and column `c`: over the rows `k` of the weights, `A(r,k)` times the signed nibble of `W(k,c)`
    times the scale at row `k / 32` and column `off + c`; the sum times the row's scale. -/
def dotNib {S K H G T L : ℕ} (hG : K = 32 * G) (hL : 0 < L) (nib : BitVec 8 → ℤ) (A : (⟨2, ![S, K]⟩ : Shape).Idx → EReal)
    (W : (⟨2, ![K, H]⟩ : Shape).Idx → BitVec 8) (Sc : (⟨2, ![G, T]⟩ : Shape).Idx → EReal) (off : ℕ) (hoff : off + H ≤ T)
    (s : (⟨2, ![S, L]⟩ : Shape).Idx → EReal) (r : Fin S) (c : Fin H) : EReal :=
  (∑ k : Fin K, A (ix2 r k) * ((((nib (W (ix2 k c)) : ℤ) : ℝ) : EReal)
    * Sc (ix2 ⟨k.val / 32, by have := k.isLt; omega⟩ ⟨off + c.val, by have := c.isLt; omega⟩))) * s (ix2 r ⟨0, hL⟩)

/-! ## A kernel's product of a block of rows -/

/-- One column spread over many, read at a place. -/
theorem spread_col {R N : ℕ} (hb : (⟨2, ![R, 1]⟩ : Shape).Broadcasts ⟨2, ![R, N]⟩) (s : (⟨2, ![R, 1]⟩ : Shape).Idx → EReal)
    (r : Fin R) (l : Fin N) : broadcastTo ⟨2, ![R, N]⟩ s hb (ix2 r l) = s (ix2 r 0) := by
  unfold broadcastTo
  congr 1
  funext a
  match a with
  | ⟨0, _⟩ =>
    apply Fin.ext
    have hl := r.isLt
    dsimp only
    split
    · rename_i h1
      have h1' : R = 1 := h1
      show 0 = r.val
      omega
    · rfl
  | ⟨1, _⟩ => rfl

/-- The product of a block of rows as a kernel computes it, each row scaled. -/
def scaled {M K N : ℕ} (d : DotDims ⟨2, ![M, K]⟩ ⟨2, ![K, N]⟩ ⟨2, ![M, N]⟩) (hb : (⟨2, ![M, 1]⟩ : Shape).Broadcasts ⟨2, ![M, N]⟩)
    (a : FVec Ideal ⟨2, ![M, K]⟩ .bf16) (w : FVec Ideal ⟨2, ![K, N]⟩ .bf16) (s : FVec Ideal ⟨2, ![M, 1]⟩ .f32) : FVec Ideal ⟨2, ![M, N]⟩ .f32 :=
  mulf (matmul d none a w (constant ⟨2, ![M, N]⟩ .f32 0x00000000#32)) (broadcastTo ⟨2, ![M, N]⟩ s hb)

/-- The word of all zero bits is zero. -/
theorem zero_bits : (FloatOps.ofBits (F := Ideal) .f32 0x00000000#32 : EReal) = 0 := by
  show Ideal.ofBits .f32 0x00000000#32 = _
  simp [Ideal.ofBits, Ideal.ieee]

/-- The scaled product at a place. -/
theorem scaled_apply {M K N : ℕ} (d : DotDims ⟨2, ![M, K]⟩ ⟨2, ![K, N]⟩ ⟨2, ![M, N]⟩) (hd : d = DotDims.plain M K N) (hb)
    (a : FVec Ideal ⟨2, ![M, K]⟩ .bf16) (w : FVec Ideal ⟨2, ![K, N]⟩ .bf16) (s : FVec Ideal ⟨2, ![M, 1]⟩ .f32) (r : Fin M) (c : Fin N) :
    scaled d hb a w s (ix2 r c) = ((∑ k : Fin K, a (ix2 r k) * w (ix2 k c)) * s (ix2 r 0) : EReal) := by
  subst hd
  show (FloatOps.matmul (DotDims.plain M K N) none a w (constant ⟨2, ![M, N]⟩ .f32 0x00000000#32) (ix2 r c) : EReal)
    * broadcastTo ⟨2, ![M, N]⟩ s hb (ix2 r c) = _
  rw [Ideal.matmul_plain_apply, spread_col hb]
  show ((FloatOps.ofBits (F := Ideal) .f32 0x00000000#32 : EReal) + _) * _ = _
  rw [zero_bits, zero_add]

/-- All rows of an array `A` against a tile of weights `w`, each row scaled: what the blocks of rows are blocks of. -/
def tileDot {S K N L : ℕ} (hL : 0 < L) (A : (⟨2, ![S, K]⟩ : Shape).Idx → EReal) (w : (⟨2, ![K, N]⟩ : Shape).Idx → EReal)
    (s : (⟨2, ![S, L]⟩ : Shape).Idx → EReal) (r : Fin S) (c : Fin N) : EReal :=
  (∑ k : Fin K, A (ix2 r k) * w (ix2 k c)) * s (ix2 r ⟨0, hL⟩)

/-- A block of rows starting at row `o`, at a place, is `tileDot` at the row shifted by `o`. -/
theorem scaled_rows {M K N S L : ℕ} (hL : 0 < L) (d : DotDims ⟨2, ![M, K]⟩ ⟨2, ![K, N]⟩ ⟨2, ![M, N]⟩) (hd : d = DotDims.plain M K N) (hb)
    (o : ℕ) (A : FVec Ideal ⟨2, ![S, K]⟩ .bf16) (s' : FVec Ideal ⟨2, ![S, L]⟩ .f32)
    (a : FVec Ideal ⟨2, ![M, K]⟩ .bf16) (w : FVec Ideal ⟨2, ![K, N]⟩ .bf16) (s : FVec Ideal ⟨2, ![M, 1]⟩ .f32) (r : Fin M) (c : Fin N)
    (R : Fin S) (hR : R.val = o + r.val)
    (ha : ∀ k : Fin K, a (ix2 r k) = A (ix2 R k)) (hs : s (ix2 r 0) = s' (ix2 R ⟨0, hL⟩)) :
    scaled d hb a w s (ix2 r c) = (tileDot hL A w s' R c : EReal) := by
  rw [scaled_apply d hd]
  unfold tileDot
  rw [hs]
  congr 1
  exact Finset.sum_congr rfl fun k _ => by rw [ha k]

/-- The low half of a tile: `tileDot` at a column below `n` is `dotNib` of the low nibbles. -/
theorem tileDot_lo {S K N L n H G T : ℕ} (hL : 0 < L) (hG : K = 32 * G) (hN : N = n + n) (A : (⟨2, ![S, K]⟩ : Shape).Idx → EReal)
    (wl wh : (⟨2, ![K, n]⟩ : Shape).Idx → BitVec 8) (sl sh : (⟨2, ![G, n]⟩ : Shape).Idx → EReal) (s : (⟨2, ![S, L]⟩ : Shape).Idx → EReal)
    (W : (⟨2, ![K, H]⟩ : Shape).Idx → BitVec 8) (Sc : (⟨2, ![G, T]⟩ : Shape).Idx → EReal) (off : ℕ) (hoff : off + H ≤ T)
    (r : Fin S) (l : Fin n) (l' : Fin N) (hl : l'.val = l.val) (c : Fin H) (c' : Fin T) (hc' : c'.val = off + c.val)
    (hw : ∀ k, wl (ix2 k l) = W (ix2 k c)) (hs : ∀ g, sl (ix2 g l) = Sc (ix2 g c')) :
    tileDot hL A (wMat hG hN wl wh sl sh) s r l' = dotNib hG hL nibLo A W Sc off hoff s r c := by
  unfold tileDot dotNib
  congr 1
  refine Finset.sum_congr rfl fun k _ => ?_
  have hk := k.isLt
  rw [wMat_lo hG hN wl wh sl sh (ix2 k l') k l ⟨k.val / 32, by omega⟩ rfl hl rfl, hw, hs]
  have e : c' = ⟨off + c.val, by have := c.isLt; omega⟩ := Fin.ext hc'
  rw [e]

/-- The high half of a tile: `tileDot` at a column from `n` on is `dotNib` of the high nibbles. -/
theorem tileDot_hi {S K N L n H G T : ℕ} (hL : 0 < L) (hG : K = 32 * G) (hN : N = n + n) (A : (⟨2, ![S, K]⟩ : Shape).Idx → EReal)
    (wl wh : (⟨2, ![K, n]⟩ : Shape).Idx → BitVec 8) (sl sh : (⟨2, ![G, n]⟩ : Shape).Idx → EReal) (s : (⟨2, ![S, L]⟩ : Shape).Idx → EReal)
    (W : (⟨2, ![K, H]⟩ : Shape).Idx → BitVec 8) (Sc : (⟨2, ![G, T]⟩ : Shape).Idx → EReal) (off : ℕ) (hoff : off + H ≤ T)
    (r : Fin S) (l : Fin n) (l' : Fin N) (hl : l'.val = n + l.val) (c : Fin H) (c' : Fin T) (hc' : c'.val = off + c.val)
    (hw : ∀ k, wh (ix2 k l) = W (ix2 k c)) (hs : ∀ g, sh (ix2 g l) = Sc (ix2 g c')) :
    tileDot hL A (wMat hG hN wl wh sl sh) s r l' = dotNib hG hL nibHi A W Sc off hoff s r c := by
  unfold tileDot dotNib
  congr 1
  refine Finset.sum_congr rfl fun k _ => ?_
  have hk := k.isLt
  rw [wMat_hi hG hN wl wh sl sh (ix2 k l') k l ⟨k.val / 32, by omega⟩ rfl hl rfl, hw, hs]
  have e : c' = ⟨off + c.val, by have := c.isLt; omega⟩ := Fin.ext hc'
  rw [e]

/-! ## Blocks of rows read and stored -/

section Rows
variable {sig : RefSig} {e : EltTy} {S M n B : ℕ}

/-- Block `b` of `M` rows lies in an array of `M B` rows. -/
theorem rows_inb (hS : S = M * B) {b n L : ℕ} (hb : b + 1 ≤ B) (hn : n ≤ L) :
    ∀ a, (![M * b, 0] : Fin 2 → ℕ) a + (![M, n] : Fin 2 → ℕ) a ≤ (⟨2, ![S, L]⟩ : Shape).size a := fun a => by
  match a with
  | ⟨0, _⟩ => show M * b + M ≤ S; subst hS; calc M * b + M = M * (b + 1) := by ring
                _ ≤ M * B := Nat.mul_le_mul_left M hb
  | ⟨1, _⟩ => show 0 + n ≤ L; omega

/-- Row `r` of block `b`. -/
def blockRow (hS : S = M * B) {b : ℕ} (hb : b + 1 ≤ B) (r : Fin M) : Fin S :=
  ⟨M * b + r.val, by
    have := rows_inb (n := 0) (L := 0) hS hb le_rfl 0
    have h : M * b + M ≤ S := this
    omega⟩

/-- Where place `(r, l)` of block `b` falls. -/
theorem rows_emb (hS : S = M * B) {b n L : ℕ} (hb : b + 1 ≤ B) (hn : n ≤ L)
    (inb : ∀ a, (![M * b, 0] : Fin 2 → ℕ) a + (![M, n] : Fin 2 → ℕ) a ≤ (⟨2, ![S, L]⟩ : Shape).size a) (r : Fin M) (l : Fin n) :
    (Rect.unit (s := ⟨2, ![S, L]⟩) ![M * b, 0] ![M, n] inb).emb (ix2 r l) = ix2 (blockRow hS hb r) ⟨l.val, by omega⟩ := by
  funext a
  apply Fin.ext
  match a with
  | ⟨0, _⟩ => show M * b + 1 * r.val = M * b + r.val; omega
  | ⟨1, _⟩ => show 0 + 1 * l.val = l.val; omega

/-- A load of block `b` from a buffer that holds `X`. -/
theorem readAt_rows (hS : S = M * B) {b n L : ℕ} (hb : b + 1 ≤ B) (hn : n ≤ L) {m : Memref sig .tc .vmem ⟨2, ![S, L]⟩ e} (hM : m.IsWhole)
    (X : (⟨2, ![S, L]⟩ : Shape).Idx → Elt Ideal e)
    (inb : ∀ a, (![M * b, 0] : Fin 2 → ℕ) a + (![M, n] : Fin 2 → ℕ) a ≤ (⟨2, ![S, L]⟩ : Shape).size a) (r : Fin M) (l : Fin n) :
    View.readAt (Elt Ideal) m.view (Rect.unit (s := ⟨2, ![S, L]⟩) ![M * b, 0] ![M, n] inb).toLoadRect (hM.unread X) (ix2 r l)
      = X (ix2 (blockRow hS hb r) ⟨l.val, by omega⟩) := by
  rw [hM.readAt_unread]
  exact congrArg X (rows_emb hS hb hn inb r l)

/-- The stores of the first `b` blocks of rows, the last one first. -/
def rowBlocks (hS : S = M * B) (pay : ∀ b, b + 1 ≤ B → (⟨2, ![M, n]⟩ : Shape).Idx → Elt Ideal e) (b : ℕ) :
    b ≤ B → List (View.Piece (Elt Ideal) ⟨2, ![S, n]⟩ e) :=
  Nat.rec (motive := fun b => b ≤ B → List (View.Piece (Elt Ideal) ⟨2, ![S, n]⟩ e)) (fun _ => [])
    (fun b ih hb => ⟨Rect.unit (s := ⟨2, ![S, n]⟩) ![M * b, 0] ![M, n] (rows_inb hS hb le_rfl), pay b hb⟩ :: ih (Nat.le_of_succ_le hb)) b

/-- If each block holds the rows of `A`, the stores are blocks of `A`. -/
theorem rowBlocks_of (hS : S = M * B) (pay : ∀ b, b + 1 ≤ B → (⟨2, ![M, n]⟩ : Shape).Idx → Elt Ideal e) (A : (⟨2, ![S, n]⟩ : Shape).Idx → Elt Ideal e)
    (h : ∀ b hb r l, pay b hb (ix2 r l) = A (ix2 (blockRow hS hb r) l)) (b : ℕ) (hb : b ≤ B) :
    View.PiecesOf A (rowBlocks hS pay b hb) := by
  induction b with
  | zero => exact trivial
  | succ b ih =>
    refine ⟨fun x => ?_, ih _⟩
    obtain ⟨r, l, rfl⟩ : ∃ (r : Fin M) (l : Fin n), x = ix2 r l := ⟨x 0, x 1, ValueIdx.eq_ix2 x⟩
    exact (h b hb r l).trans (congrArg A (rows_emb hS hb le_rfl (rows_inb hS hb le_rfl) r l).symm)

/-- The blocks cover the rows. -/
theorem rowBlocks_cover (hS : S = M * B) (pay : ∀ b, b + 1 ≤ B → (⟨2, ![M, n]⟩ : Shape).Idx → Elt Ideal e) (b : ℕ) (hb : b ≤ B)
    (y : (⟨2, ![S, n]⟩ : Shape).Idx) (hy : (y 0).val < M * b) : ∃ p ∈ rowBlocks hS pay b hb, y ∈ p.1.set := by
  induction b with
  | zero => omega
  | succ b ih =>
    have hy1 := ValueIdx.idx2_lt1 y
    by_cases hlt : (y 0).val < M * b
    · obtain ⟨p, hp, hyp⟩ := ih (by omega) hlt
      exact ⟨p, List.mem_cons_of_mem _ hp, hyp⟩
    · refine ⟨_, List.mem_cons_self, (Rect.mem_set_unit (inb := rows_inb hS hb le_rfl)).mpr fun a => ?_⟩
      have e : M * (b + 1) = M * b + M := by ring
      match a with
      | ⟨0, _⟩ => exact (show M * b ≤ (y 0).val ∧ (y 0).val < M * b + M by omega)
      | ⟨1, _⟩ => exact (show 0 ≤ (y 1).val ∧ (y 1).val < 0 + n by omega)

/-- ALL BLOCKS STORED. If each block holds the rows of `A`, the buffer holds `A`. -/
theorem canon_rowBlocks (hS : S = M * B) (pay : ∀ b, b + 1 ≤ B → (⟨2, ![M, n]⟩ : Shape).Idx → Elt Ideal e) (A : (⟨2, ![S, n]⟩ : Shape).Idx → Elt Ideal e)
    (h : ∀ b hb r l, pay b hb (ix2 r l) = A (ix2 (blockRow hS hb r) l)) : View.canon (rowBlocks hS pay B le_rfl) = A := by
  funext y
  exact (View.canon_append_of_piecesOf A [] _ (rowBlocks_of hS pay A h B le_rfl) y
    (rowBlocks_cover hS pay B le_rfl y (by have := ValueIdx.idx2_lt0 y; omega)) : View.canon (_ ++ []) y = A y) ▸ by rw [List.append_nil]

/-- What an output buffer holds after all blocks are stored. -/
theorem read_rowBlocks (hS : S = M * B) (pay : ∀ b, b + 1 ≤ B → (⟨2, ![M, n]⟩ : Shape).Idx → Elt Ideal e) (A : (⟨2, ![S, n]⟩ : Shape).Idx → Elt Ideal e)
    (h : ∀ b hb r l, pay b hb (ix2 r l) = A (ix2 (blockRow hS hb r) l)) (v : View sig .tc .vmem ⟨2, ![S, n]⟩ e)
    (L : List (View.Piece (Elt Ideal) ⟨2, ![S, n]⟩ e)) (hL : L = rowBlocks hS pay B le_rfl) :
    v.read (Elt Ideal) (v.writes (Elt Ideal) v.junk L) = A := by
  rw [View.read_writes_junk_eq_canon, hL, canon_rowBlocks hS pay A h]

/-- A load of one block from a buffer filled by all of them. -/
theorem readCov_rows (hS : S = M * B) (pay : ∀ b, b + 1 ≤ B → (⟨2, ![M, n]⟩ : Shape).Idx → Elt Ideal e) (A : (⟨2, ![S, n]⟩ : Shape).Idx → Elt Ideal e)
    (h : ∀ b hb r l, pay b hb (ix2 r l) = A (ix2 (blockRow hS hb r) l)) (v : View sig .tc .vmem ⟨2, ![S, n]⟩ e) {b : ℕ} (hb : b + 1 ≤ B)
    (inb : ∀ a, (![M * b, 0] : Fin 2 → ℕ) a + (![M, n] : Fin 2 → ℕ) a ≤ (⟨2, ![S, n]⟩ : Shape).size a) (r : Fin M) (l : Fin n) :
    v.readCov (rowBlocks hS pay B le_rfl) (Rect.unit (s := ⟨2, ![S, n]⟩) ![M * b, 0] ![M, n] inb).toLoadRect (ix2 r l) = A (ix2 (blockRow hS hb r) l) := by
  rw [View.readCov_eq_canon', canon_rowBlocks hS pay A h]
  exact congrArg A (rows_emb hS hb le_rfl inb r l)

/-- A block of centred codes as a kernel computes it. -/
def codeRows {K : ℕ} (hb : (⟨2, ![M, 1]⟩ : Shape).Broadcasts ⟨2, ![M, K]⟩) (ht : FTy.bf16.bits < FTy.f32.bits)
    (hc : (⟨2, ![M, K]⟩ : Shape).ShapeCasts ⟨2, ![M, K]⟩) (x : Vec Ideal ⟨2, ![M, K]⟩ .i8) (z : Vec Ideal ⟨2, ![M, 1]⟩ .f32) : FVec Ideal ⟨2, ![M, K]⟩ .bf16 :=
  shapeCast ⟨2, ![M, K]⟩ (truncf .bf16 (subf (sitofp .f32 x) (broadcastTo ⟨2, ![M, K]⟩ z hb)) ht) hc

/-- It holds the rows of the codes less their zero points. -/
theorem codeRows_apply {K L : ℕ} (hS : S = M * B) (hL : 0 < L) (hb' : (⟨2, ![M, 1]⟩ : Shape).Broadcasts ⟨2, ![M, K]⟩) (ht hc)
    {m : Memref sig .tc .vmem ⟨2, ![S, K]⟩ .i8} (hM : m.IsWhole) {m' : Memref sig .tc .vmem ⟨2, ![S, L]⟩ .f32} (hM' : m'.IsWhole)
    (X : Vec Ideal ⟨2, ![S, K]⟩ .i8) (Z : Vec Ideal ⟨2, ![S, L]⟩ .f32) (b : ℕ) (hb : b + 1 ≤ B) (inb inb') (r : Fin M) (k : Fin K) :
    codeRows hb' ht hc (View.readAt (Elt Ideal) m.view (Rect.unit (s := ⟨2, ![S, K]⟩) ![M * b, 0] ![M, K] inb).toLoadRect (hM.unread X))
      (View.readAt (Elt Ideal) m'.view (Rect.unit (s := ⟨2, ![S, L]⟩) ![M * b, 0] ![M, 1] inb').toLoadRect (hM'.unread Z)) (ix2 r k)
      = (codesMinusZero hL X Z (ix2 (blockRow hS hb r) k) : EReal) := by
  unfold codeRows
  rw [shapeCast_id]
  show ((((View.readAt (Elt Ideal) m.view (Rect.unit (s := ⟨2, ![S, K]⟩) ![M * b, 0] ![M, K] inb).toLoadRect (hM.unread X) (ix2 r k) : BitVec 8).toInt : ℝ) : EReal)
    - (broadcastTo ⟨2, ![M, K]⟩ _ hb' (ix2 r k) : EReal)) = _
  rw [spread_col hb', readAt_rows hS hb le_rfl hM X inb r k, readAt_rows hS hb hL hM' Z inb' r 0]
  rfl

end Rows

/-! ## The plain route -/

section Plain
variable {S K H G T L : ℕ}

/-- A row of scales for each group, spread over the group's rows. -/
theorem spread_groups {α : Type} (h : (⟨3, ![G, 1, H]⟩ : Shape).BroadcastsInDim ⟨3, ![G, 32, H]⟩ (![0, 1, 2] : Fin 3 → Fin 3))
    (x : (⟨3, ![G, 1, H]⟩ : Shape).Idx → α) (g : Fin G) (p : Fin 32) (c : Fin H) :
    broadcastInDim ⟨3, ![G, 32, H]⟩ ![0, 1, 2] h x (ix3 g p c) = x (ix3 g 0 c) := by
  unfold broadcastInDim
  congr 1
  funext a
  have hg := g.isLt
  have hc := c.isLt
  match a with
  | ⟨0, _⟩ =>
    apply Fin.ext
    dsimp only
    split
    · rename_i h1
      have h1' : G = 1 := h1
      show 0 = g.val
      omega
    · rfl
  | ⟨1, _⟩ => rfl
  | ⟨2, _⟩ =>
    apply Fin.ext
    dsimp only
    split
    · rename_i h1
      have h1' : H = 1 := h1
      show 0 = c.val
      omega
    · rfl

/-- A matrix of scales given a middle axis of extent one. -/
theorem unit_middle {α : Type} (h : (⟨2, ![G, H]⟩ : Shape).BroadcastsInDim ⟨3, ![G, 1, H]⟩ (![0, 2] : Fin 2 → Fin 3))
    (x : (⟨2, ![G, H]⟩ : Shape).Idx → α) (g : Fin G) (u : Fin 1) (c : Fin H) :
    broadcastInDim ⟨3, ![G, 1, H]⟩ ![0, 2] h x (ix3 g u c) = x (ix2 g c) := by
  unfold broadcastInDim
  congr 1
  funext a
  have hg := g.isLt
  have hc := c.isLt
  match a with
  | ⟨0, _⟩ =>
    apply Fin.ext
    dsimp only
    split
    · rename_i h1
      have h1' : G = 1 := h1
      show 0 = g.val
      omega
    · rfl
  | ⟨1, _⟩ =>
    apply Fin.ext
    dsimp only
    split
    · rename_i h1
      have h1' : H = 1 := h1
      show 0 = c.val
      omega
    · rfl

/-- One column spread over all. -/
theorem spread_col_host {α : Type} (h : (⟨2, ![S, 1]⟩ : Shape).BroadcastsInDim ⟨2, ![S, H]⟩ (![0, 1] : Fin 2 → Fin 2))
    (x : (⟨2, ![S, 1]⟩ : Shape).Idx → α) (r : Fin S) (c : Fin H) :
    broadcastInDim ⟨2, ![S, H]⟩ ![0, 1] h x (ix2 r c) = x (ix2 r 0) := by
  unfold broadcastInDim
  congr 1
  funext a
  have hg := r.isLt
  match a with
  | ⟨0, _⟩ =>
    apply Fin.ext
    dsimp only
    split
    · rename_i h1
      have h1' : S = 1 := h1
      show 0 = r.val
      omega
    · rfl
  | ⟨1, _⟩ => rfl

/-- The first column of a matrix. -/
theorem first_col {α : Type} (hL : 0 < L) (h : (⟨2, ![S, L]⟩ : Shape).Slices ![0, 0] ⟨2, ![S, 1]⟩) (x : (⟨2, ![S, L]⟩ : Shape).Idx → α) (r : Fin S) (u : Fin 1) :
    extractStridedSlice ⟨2, ![S, 1]⟩ ![0, 0] x h (ix2 r u) = x (ix2 r ⟨0, hL⟩) := by
  unfold extractStridedSlice
  congr 1
  funext a
  apply Fin.ext
  have hu := u.isLt
  match a with
  | ⟨0, _⟩ => show 0 + r.val = r.val; omega
  | ⟨1, _⟩ => show 0 + u.val = 0; omega

/-- Columns of a matrix from column `off` on. -/
theorem slice_cols {α : Type} {M N n : ℕ} (off : ℕ) (h : (⟨2, ![M, N]⟩ : Shape).Slices ![0, off] ⟨2, ![M, n]⟩) (x : (⟨2, ![M, N]⟩ : Shape).Idx → α)
    (r : Fin M) (l : Fin n) (l' : Fin N) (hl : l'.val = off + l.val) :
    extractStridedSlice ⟨2, ![M, n]⟩ ![0, off] x h (ix2 r l) = x (ix2 r l') := by
  unfold extractStridedSlice
  congr 1
  funext a
  apply Fin.ext
  match a with
  | ⟨0, _⟩ => show 0 + r.val = r.val; omega
  | ⟨1, _⟩ => exact hl.symm

/-- The whole-array product with weights grouped by thirty-two rows, each group scaled, and the rows of the product scaled. -/
def plainProduct (d : DotDims ⟨2, ![S, K]⟩ ⟨2, ![K, H]⟩ ⟨2, ![S, H]⟩) (off : ℕ)
    (h1 : (⟨2, ![K, H]⟩ : Shape).ShapeCasts ⟨3, ![G, 32, H]⟩) (h2 : (⟨3, ![G, 1, H]⟩ : Shape).BroadcastsInDim ⟨3, ![G, 32, H]⟩ (![0, 1, 2] : Fin 3 → Fin 3))
    (h3 : (⟨2, ![G, H]⟩ : Shape).BroadcastsInDim ⟨3, ![G, 1, H]⟩ (![0, 2] : Fin 2 → Fin 3)) (h4 : (⟨2, ![G, T]⟩ : Shape).Slices ![0, off] ⟨2, ![G, H]⟩)
    (h5 : (⟨3, ![G, 32, H]⟩ : Shape).ShapeCasts ⟨2, ![K, H]⟩) (ht : FTy.bf16.bits < FTy.f32.bits)
    (h6 : (⟨2, ![S, 1]⟩ : Shape).BroadcastsInDim ⟨2, ![S, H]⟩ (![0, 1] : Fin 2 → Fin 2)) (h7 : (⟨2, ![S, L]⟩ : Shape).Slices ![0, 0] ⟨2, ![S, 1]⟩)
    (a : FVec Ideal ⟨2, ![S, K]⟩ .bf16) (x : IVec ⟨2, ![K, H]⟩ 32) (sc : FVec Ideal ⟨2, ![G, T]⟩ .f32) (s : FVec Ideal ⟨2, ![S, L]⟩ .f32) :
    FVec Ideal ⟨2, ![S, H]⟩ .f32 :=
  mulf (Host.dotGeneral d none a (shapeCast ⟨2, ![K, H]⟩ (mulf (shapeCast ⟨3, ![G, 32, H]⟩ (sitofp .bf16 x) h1)
    (broadcastInDim ⟨3, ![G, 32, H]⟩ ![0, 1, 2] h2 (broadcastInDim ⟨3, ![G, 1, H]⟩ ![0, 2] h3
      (truncf .bf16 (extractStridedSlice ⟨2, ![G, H]⟩ ![0, off] sc h4) ht)))) h5))
    (broadcastInDim ⟨2, ![S, H]⟩ ![0, 1] h6 (extractStridedSlice ⟨2, ![S, 1]⟩ ![0, 0] s h7))

/-- The grouped and scaled weights at row `k`: the weight there times the scale at row `k / 32`. -/
theorem group_scale (hG : K = 32 * G) (off : ℕ) (x : FVec Ideal ⟨2, ![K, H]⟩ .bf16) (sc : FVec Ideal ⟨2, ![G, T]⟩ .f32)
    (h1 : (⟨2, ![K, H]⟩ : Shape).ShapeCasts ⟨3, ![G, 32, H]⟩) (h2 : (⟨3, ![G, 1, H]⟩ : Shape).BroadcastsInDim ⟨3, ![G, 32, H]⟩ (![0, 1, 2] : Fin 3 → Fin 3))
    (h3 : (⟨2, ![G, H]⟩ : Shape).BroadcastsInDim ⟨3, ![G, 1, H]⟩ (![0, 2] : Fin 2 → Fin 3)) (h4 : (⟨2, ![G, T]⟩ : Shape).Slices ![0, off] ⟨2, ![G, H]⟩)
    (h5 : (⟨3, ![G, 32, H]⟩ : Shape).ShapeCasts ⟨2, ![K, H]⟩) (ht : FTy.bf16.bits < FTy.f32.bits) (k : Fin K) (c : Fin H)
    (g : Fin G) (hg : g.val = k.val / 32) (c' : Fin T) (hc' : c'.val = off + c.val) :
    shapeCast ⟨2, ![K, H]⟩ (mulf (shapeCast ⟨3, ![G, 32, H]⟩ x h1) (broadcastInDim ⟨3, ![G, 32, H]⟩ ![0, 1, 2] h2
      (broadcastInDim ⟨3, ![G, 1, H]⟩ ![0, 2] h3 (truncf .bf16 (extractStridedSlice ⟨2, ![G, H]⟩ ![0, off] sc h4) ht)))) h5 (ix2 k c)
      = ((x (ix2 k c) : EReal) * (sc (ix2 g c') : EReal) : EReal) := by
  have hk := k.isLt
  rw [shapeCast_apply _ h5 _ (ix3 g ⟨k.val % 32, Nat.mod_lt _ (by omega)⟩ c) (by
    rw [Shape.rowMajor_val_two, Shape.rowMajor_val_three]
    show (g.val * 32 + k.val % 32) * H + c.val = k.val * H + c.val
    rw [hg, Nat.div_add_mod' k.val 32])]
  show (shapeCast ⟨3, ![G, 32, H]⟩ x h1 (ix3 g ⟨k.val % 32, _⟩ c) : EReal)
    * (broadcastInDim ⟨3, ![G, 32, H]⟩ ![0, 1, 2] h2
      (broadcastInDim ⟨3, ![G, 1, H]⟩ ![0, 2] h3 (truncf .bf16 (extractStridedSlice ⟨2, ![G, H]⟩ ![0, off] sc h4) ht)) (ix3 g ⟨k.val % 32, _⟩ c) : EReal) = _
  rw [shapeCast_apply x h1 _ (ix2 k c) (by
    rw [Shape.rowMajor_val_two, Shape.rowMajor_val_three]
    show k.val * H + c.val = (g.val * 32 + k.val % 32) * H + c.val
    rw [hg, Nat.div_add_mod' k.val 32]), spread_groups, unit_middle]
  show _ * (extractStridedSlice ⟨2, ![G, H]⟩ ![0, off] sc h4 (ix2 g c) : EReal) = _
  rw [slice_cols off h4 sc g c c' hc']

/-- The plain product at a place, given what the unpacked words are as signed numbers: `dotNib`. -/
theorem plainProduct_apply (hG : K = 32 * G) (hL : 0 < L) (d : DotDims ⟨2, ![S, K]⟩ ⟨2, ![K, H]⟩ ⟨2, ![S, H]⟩) (hd : d = DotDims.plain S K H)
    (off : ℕ) (hoff : off + H ≤ T) (h1 h2 h3 h4 h5 ht h6 h7)
    (a : FVec Ideal ⟨2, ![S, K]⟩ .bf16) (x : IVec ⟨2, ![K, H]⟩ 32) (sc : FVec Ideal ⟨2, ![G, T]⟩ .f32) (s : FVec Ideal ⟨2, ![S, L]⟩ .f32)
    (nib : BitVec 8 → ℤ) (W : (⟨2, ![K, H]⟩ : Shape).Idx → BitVec 8) (hx : ∀ i, (x i).toInt = nib (W i)) (r : Fin S) (c : Fin H) :
    plainProduct d off h1 h2 h3 h4 h5 ht h6 h7 a x sc s (ix2 r c) = (dotNib hG hL nib a W sc off hoff s r c : EReal) := by
  subst hd
  unfold plainProduct dotNib
  show ((Host.dotGeneral (DotDims.plain S K H) none a _ (ix2 r c) : EReal) * (broadcastInDim ⟨2, ![S, H]⟩ ![0, 1] h6 (extractStridedSlice ⟨2, ![S, 1]⟩ ![0, 0] s h7) (ix2 r c) : EReal)) = _
  rw [StackMember.dotGeneral_plain_apply, spread_col_host, first_col hL]
  congr 1
  refine Finset.sum_congr rfl fun k _ => ?_
  have hk := k.isLt
  have hc := c.isLt
  rw [group_scale hG off _ sc h1 h2 h3 h4 h5 ht k c ⟨k.val / 32, by omega⟩ rfl ⟨off + c.val, by omega⟩ rfl]
  show _ * ((((x (ix2 k c)).toInt : ℝ) : EReal) * _) = _
  rw [hx]

/-- The low nibbles by the plain route, as words. -/
def plainLo (hb : (⟨0, ![]⟩ : Shape).BroadcastsInDim ⟨2, ![K, H]⟩ (![] : Fin 0 → Fin 2)) (h : 8 < 32) (w : IVec ⟨2, ![K, H]⟩ 8) : IVec ⟨2, ![K, H]⟩ 32 :=
  select (cmpi .sge (andi (extui 32 w h) (broadcastInDim ⟨2, ![K, H]⟩ ![] hb (constantI ⟨0, ![]⟩ 32 15#32))) (broadcastInDim ⟨2, ![K, H]⟩ ![] hb (constantI ⟨0, ![]⟩ 32 8#32)))
    (subi (andi (extui 32 w h) (broadcastInDim ⟨2, ![K, H]⟩ ![] hb (constantI ⟨0, ![]⟩ 32 15#32))) (broadcastInDim ⟨2, ![K, H]⟩ ![] hb (constantI ⟨0, ![]⟩ 32 16#32)))
    (andi (extui 32 w h) (broadcastInDim ⟨2, ![K, H]⟩ ![] hb (constantI ⟨0, ![]⟩ 32 15#32)))

/-- The high nibbles by the plain route, as words. -/
def plainHi (hb : (⟨0, ![]⟩ : Shape).BroadcastsInDim ⟨2, ![K, H]⟩ (![] : Fin 0 → Fin 2)) (h : 8 < 32) (w : IVec ⟨2, ![K, H]⟩ 8) : IVec ⟨2, ![K, H]⟩ 32 :=
  select (cmpi .sge (Host.shrsi (extui 32 w h) (broadcastInDim ⟨2, ![K, H]⟩ ![] hb (constantI ⟨0, ![]⟩ 32 4#32))) (broadcastInDim ⟨2, ![K, H]⟩ ![] hb (constantI ⟨0, ![]⟩ 32 8#32)))
    (subi (Host.shrsi (extui 32 w h) (broadcastInDim ⟨2, ![K, H]⟩ ![] hb (constantI ⟨0, ![]⟩ 32 4#32))) (broadcastInDim ⟨2, ![K, H]⟩ ![] hb (constantI ⟨0, ![]⟩ 32 16#32)))
    (Host.shrsi (extui 32 w h) (broadcastInDim ⟨2, ![K, H]⟩ ![] hb (constantI ⟨0, ![]⟩ 32 4#32)))

/-- Read as signed numbers they are the low nibbles. -/
theorem plainLo_toInt (hb h) (w : IVec ⟨2, ![K, H]⟩ 8) (i) : (plainLo hb h w i).toInt = nibLo (w i) := ref_lo (w i)

/-- Read as signed numbers they are the high nibbles. -/
theorem plainHi_toInt (hb h) (w : IVec ⟨2, ![K, H]⟩ 8) (i) : (plainHi hb h w i).toInt = nibHi (w i) := ref_hi (w i)

/-- The centred codes by the plain route. -/
def plainCodes (h : 8 < 32) (hs : (⟨2, ![S, L]⟩ : Shape).Slices ![0, 0] ⟨2, ![S, 1]⟩)
    (hb : (⟨2, ![S, 1]⟩ : Shape).BroadcastsInDim ⟨2, ![S, K]⟩ (![0, 1] : Fin 2 → Fin 2)) (ht : FTy.bf16.bits < FTy.f32.bits)
    (X : IVec ⟨2, ![S, K]⟩ 8) (Z : FVec Ideal ⟨2, ![S, L]⟩ .f32) : FVec Ideal ⟨2, ![S, K]⟩ .bf16 :=
  truncf .bf16 (subf (sitofp .f32 (extsi 32 X h)) (broadcastInDim ⟨2, ![S, K]⟩ ![0, 1] hb (extractStridedSlice ⟨2, ![S, 1]⟩ ![0, 0] Z hs))) ht

/-- They are the codes less the zero points. -/
theorem plainCodes_eq (hL : 0 < L) (h hs hb ht) (X : IVec ⟨2, ![S, K]⟩ 8) (Z : FVec Ideal ⟨2, ![S, L]⟩ .f32) :
    plainCodes h hs hb ht X Z = (codesMinusZero hL X Z : (⟨2, ![S, K]⟩ : Shape).Idx → EReal) := by
  funext y
  obtain ⟨r, k, rfl⟩ : ∃ (r : Fin S) (k : Fin K), y = ix2 r k := ⟨y 0, y 1, ValueIdx.eq_ix2 y⟩
  show ((((X (ix2 r k)).signExtend 32).toInt : ℝ) : EReal) - (broadcastInDim ⟨2, ![S, K]⟩ ![0, 1] hb (extractStridedSlice ⟨2, ![S, 1]⟩ ![0, 0] Z hs) (ix2 r k) : EReal) = _
  rw [spread_col_host, first_col hL, BitVec.toInt_signExtend_of_le (by omega)]
  rfl

end Plain

end Int4
-- ==== Proof.GateUpRef.lean ====
/-
  The reference's gate and up product with its gated activation, over the extended reals: its result is `gateUpSpec`, at every row
  and column.
-/
module

public import proofs.«01_k».proof.Proof.Gen.GateUpRefIdeal.Run
public import proofs.«01_k».proof.Proof.Linear

@[expose] public section

set_option maxRecDepth 16384
set_option maxHeartbeats 1000000

noncomputable section

namespace Int4

open Idealize.ShloMosaic

/-- A gate and an up value make up times gate times the logistic function of gate. -/
def gated (gate up : EReal) : EReal := up * gate * Ideal.logistic gate

/-- The result at a place: the gated pair of products with the low and the high nibbles. -/
def gateUpSpec (X : (⟨2, ![1920, 3072]⟩ : Shape).Idx → BitVec 8) (S Z : (⟨2, ![1920, 128]⟩ : Shape).Idx → EReal)
    (W : (⟨2, ![3072, 8192]⟩ : Shape).Idx → BitVec 8) (Sc : (⟨2, ![96, 16384]⟩ : Shape).Idx → EReal) (y : (⟨2, ![1920, 8192]⟩ : Shape).Idx) : EReal :=
  gated (dotNib (K := 3072) (G := 96) (L := 128) rfl (by decide) nibLo (codesMinusZero (L := 128) (by decide) X Z) W Sc 0 (by decide) S (y 0) (y 1))
    (dotNib (K := 3072) (G := 96) (L := 128) rfl (by decide) nibHi (codesMinusZero (L := 128) (by decide) X Z) W Sc 8192 (by decide) S (y 0) (y 1))

end Int4

namespace Cert.GateUpRefIdeal.Hand

open Cert.GateUpRefIdeal Cert.GateUpRefIdeal.Gen Idealize.ShloMosaic Idealize.ShloMosaic.TcCoe Idealize.SL.Sem

/-- The gated product as the reference writes it. -/
def plainGated (u g : FVec Ideal S1920x8192 .f32) : FVec Ideal S1920x8192 .f32 :=
  mulf (mulf u g) (Host.divf (broadcastInDim S1920x8192 ![] bcast_S_S1920x8192 (constant S_ .f32 0x3F800000#32))
    (addf (broadcastInDim S1920x8192 ![] bcast_S_S1920x8192 (constant S_ .f32 0x3F800000#32)) (Host.exp (Host.negf g))))

/-- Read at a place: a gated pair. -/
theorem plainGated_apply (u g : FVec Ideal S1920x8192 .f32) (y : S1920x8192.Idx) : plainGated u g y = Int4.gated (g y) (u y) := by
  show (u y * g y : EReal) * Ideal.div (Ideal.ofBits .f32 0x3F800000#32) (Ideal.ofBits .f32 0x3F800000#32 + Ideal.exp (-(g y))) = _
  rw [Ideal.ofBits_one_f32]
  rfl

section
variable (m : (ℓ : Loc nD τ sig) → Buf (Elt Ideal) ℓ) (c : Dev nD)

/-- The centred codes as the reference writes them. -/
def codes : Vec Ideal S1920x3072 .bf16 :=
  Int4.plainCodes natLt_8_32 slices_S1920x128_S1920x1_0_0 bcast_S1920x1_S1920x3072_0_1 bitsLt_bf16_f32 (m ((c.tc : Thread nD τ).loc main_arg0)) (m ((c.tc : Thread nD τ).loc main_arg2))

/-- The product with the low nibbles as the reference writes it. -/
def lowProduct : Vec Ideal S1920x8192 .f32 :=
  Int4.plainProduct (S := 1920) (K := 3072) (H := 8192) (G := 96) (T := 16384) (L := 128) dot_S1920x3072_S3072x8192_S1920x8192_1_0_0_1_n_n 0
    shapeCasts_S3072x8192_S96x32x8192 bcast_S96x1x8192_S96x32x8192_0_1_2 bcast_S96x8192_S96x1x8192_0_2 slices_S96x16384_S96x8192_0_0 shapeCasts_S96x32x8192_S3072x8192 bitsLt_bf16_f32
    bcast_S1920x1_S1920x8192_0_1 slices_S1920x128_S1920x1_0_0 (codes m c) (Int4.plainLo bcast_S_S3072x8192 natLt_8_32 (m ((c.tc : Thread nD τ).loc main_arg3)))
    (m ((c.tc : Thread nD τ).loc main_arg4)) (m ((c.tc : Thread nD τ).loc main_arg1))

/-- The product with the high nibbles as the reference writes it. -/
def highProduct : Vec Ideal S1920x8192 .f32 :=
  Int4.plainProduct (S := 1920) (K := 3072) (H := 8192) (G := 96) (T := 16384) (L := 128) dot_S1920x3072_S3072x8192_S1920x8192_1_0_0_1_n_n 8192
    shapeCasts_S3072x8192_S96x32x8192 bcast_S96x1x8192_S96x32x8192_0_1_2 bcast_S96x8192_S96x1x8192_0_2 slices_S96x16384_S96x8192_0_8192 shapeCasts_S96x32x8192_S3072x8192 bitsLt_bf16_f32
    bcast_S1920x1_S1920x8192_0_1 slices_S1920x128_S1920x1_0_0 (codes m c) (Int4.plainHi bcast_S_S3072x8192 natLt_8_32 (m ((c.tc : Thread nD τ).loc main_arg3)))
    (m ((c.tc : Thread nD τ).loc main_arg4)) (m ((c.tc : Thread nD τ).loc main_arg1))

/-- The reference's result is the gated pair of the two products. -/
theorem result_eq : Cert.GateUpRefIdeal.Value.res_out0 m c = plainGated (highProduct m c) (lowProduct m c) := by
  unfold Cert.GateUpRefIdeal.Value.res_out0 Cert.GateUpRefIdeal.Value.res_main_v52 plainGated highProduct lowProduct codes Int4.plainProduct Int4.plainCodes Int4.plainLo Int4.plainHi
  rfl

/-- THE REFERENCE: its result. -/
theorem reference_eq : Cert.GateUpRefIdeal.Value.res_out0 m c
    = (Int4.gateUpSpec (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) : Vec Ideal S1920x8192 .f32) := by
  rw [result_eq]
  funext y
  obtain ⟨r, l, rfl⟩ : ∃ (r : Fin 1920) (l : Fin 8192), y = ValueIdx.ix2 r l := ⟨y 0, y 1, ValueIdx.eq_ix2 y⟩
  rw [plainGated_apply]
  have hd : dot_S1920x3072_S3072x8192_S1920x8192_1_0_0_1_n_n = DotDims.plain 1920 3072 8192 := rfl
  unfold lowProduct highProduct
  rw [Int4.plainProduct_apply (S := 1920) (K := 3072) (H := 8192) (G := 96) (T := 16384) (L := 128) rfl (by decide) _ hd 0 (by decide) _ _ _ _ _ _ _ _ _ _ _ _ Int4.nibLo (m ((c.tc : Thread nD τ).loc main_arg3)) (Int4.plainLo_toInt _ _ _),
    Int4.plainProduct_apply (S := 1920) (K := 3072) (H := 8192) (G := 96) (T := 16384) (L := 128) rfl (by decide) _ hd 8192 (by decide) _ _ _ _ _ _ _ _ _ _ _ _ Int4.nibHi (m ((c.tc : Thread nD τ).loc main_arg3)) (Int4.plainHi_toInt _ _ _)]
  unfold codes
  rw [Int4.plainCodes_eq (L := 128) (by decide)]
  rfl

end

end Cert.GateUpRefIdeal.Hand
-- ==== Proof.GateUp.lean ====
/-
  The gate and up product with its gated activation, over the extended reals: what the kernel leaves is `gateUpSpec`, at every row
  and column.

  The kernel's grid walks the tiles of 256 columns. The first point stores the centred codes in a buffer that later points read
  again (`scratch`). Every point unpacks its tile of weights, multiplies five blocks of 384 rows by it and stores the gated
  product (`point`). The blocks written back tile the result (`kernel_eq`).
-/
module

public import proofs.«01_k».proof.Proof.Gen.GateUpIdeal.Value
public import proofs.«01_k».proof.Proof.GateUpRef

@[expose] public section

set_option maxRecDepth 16384
set_option maxHeartbeats 1000000

noncomputable section

namespace Cert.GateUpIdeal.Hand

open Cert.GateUpIdeal Cert.GateUpIdeal.Gen Idealize.ShloMosaic Idealize.ShloMosaic.TcCoe Idealize.SL.Sem
open Idealize.ShloMosaic.Pipeline (Dat)

/-! ## What the kernel reads -/

variable (m : (ℓ : Loc nD τ sig) → Buf (Elt Ideal) ℓ)

/-- Where each window's block stands at each point of the grid. -/
theorem idx : ∀ t : Fin cfg0.N, win0_0.index t = ![0, 0] ∧ win0_1.index t = ![0, 0] ∧ win0_2.index t = ![0, 0]
    ∧ win0_3.index t = ![0, t.val] ∧ win0_4.index t = ![0, t.val] ∧ win0_5.index t = ![0, 32 + t.val] ∧ win0_6.index t = ![0, t.val] :=
  (by decide +kernel : ∀ t : Fin grid0.N, _)

/-- The codes are read whole. -/
theorem iblk0 (c : Dev nD) (t : Fin cfg0.N) : (iblk m c 0 t : Vec Ideal S1920x3072 .i8) = m ((c : Thread nD τ).loc main_arg0) := by
  funext y; blk_point [iblk, V, idx t]

/-- The scales of the rows are read whole. -/
theorem iblk1 (c : Dev nD) (t : Fin cfg0.N) : (iblk m c 1 t : Vec Ideal S1920x128 .f32) = m ((c : Thread nD τ).loc main_arg1) := by
  funext y; blk_point [iblk, V, idx t]

/-- The zero points are read whole. -/
theorem iblk2 (c : Dev nD) (t : Fin cfg0.N) : (iblk m c 2 t : Vec Ideal S1920x128 .f32) = m ((c : Thread nD τ).loc main_arg2) := by
  funext y; blk_point [iblk, V, idx t]

/-- The bytes of tile `t`. -/
theorem iblk3 (c : Dev nD) (t : Fin cfg0.N) (k : Fin 3072) (l : Fin 256) (c' : Fin 8192) (h : c'.val = 256 * t.val + l.val) :
    (iblk m c 3 t : Vec Ideal S3072x256 .i8) (ValueIdx.ix2 k l) = (m ((c : Thread nD τ).loc main_arg3) : Vec Ideal S3072x8192 .i8) (ValueIdx.ix2 k c') := by
  blk_point [iblk, V, idx t]
  show t.val * 256 + l.val = c'.val
  omega

/-- The scales of the low half of tile `t`. -/
theorem iblk4 (c : Dev nD) (t : Fin cfg0.N) (g : Fin 96) (l : Fin 256) (c' : Fin 16384) (h : c'.val = 256 * t.val + l.val) :
    (iblk m c 4 t : Vec Ideal S96x256 .f32) (ValueIdx.ix2 g l) = (m ((c : Thread nD τ).loc main_arg4) : Vec Ideal S96x16384 .f32) (ValueIdx.ix2 g c') := by
  blk_point [iblk, V, idx t]
  show t.val * 256 + l.val = c'.val
  omega

/-- The scales of the high half of tile `t`. -/
theorem iblk5 (c : Dev nD) (t : Fin cfg0.N) (g : Fin 96) (l : Fin 256) (c' : Fin 16384) (h : c'.val = 8192 + (256 * t.val + l.val)) :
    (iblk m c 5 t : Vec Ideal S96x256 .f32) (ValueIdx.ix2 g l) = (m ((c : Thread nD τ).loc main_arg4) : Vec Ideal S96x16384 .f32) (ValueIdx.ix2 g c') := by
  blk_point [iblk, V, idx t]
  show (32 + t.val) * 256 + l.val = c'.val
  omega

/-! ## The centred codes -/

/-- The array of centred codes. -/
def centred (c : Dev nD) : Vec Ideal S1920x3072 .bf16 :=
  Int4.codesMinusZero (S := 1920) (K := 3072) (L := 128) (by decide) (m ((c : Thread nD τ).loc main_arg0)) (m ((c : Thread nD τ).loc main_arg2))

/-- The five blocks of centred codes that the first point stores. -/
def codePay (c : Dev nD) (t : Fin cfg0.N) (b : ℕ) (hb : b + 1 ≤ 5) : Vec Ideal S384x3072 .bf16 :=
  Int4.codeRows broadcasts_S384x1_S384x3072 bitsLt_bf16_f32 shapeCasts_S384x3072_S384x3072
    (View.readAt (Elt Ideal) (ms0_0 t).view (Rect.unit (s := S1920x3072) ![384 * b, 0] ![384, 3072] (Int4.rows_inb (B := 5) rfl hb le_rfl)).toLoadRect ((hs0_0 t).unread (iblk m c 0 t)))
    (View.readAt (Elt Ideal) (ms0_2 t).view (Rect.unit (s := S1920x128) ![384 * b, 0] ![384, 1] (Int4.rows_inb (B := 5) rfl hb (by decide))).toLoadRect ((hs0_2 t).unread (iblk m c 2 t)))

/-- They hold the rows of the array of centred codes. -/
theorem codePay_apply (c : Dev nD) (t : Fin cfg0.N) (b : ℕ) (hb : b + 1 ≤ 5) (r : Fin 384) (k : Fin 3072) :
    codePay m c t b hb (ValueIdx.ix2 r k) = centred m c (ValueIdx.ix2 (Int4.blockRow (S := 1920) rfl hb r) k) := by
  unfold codePay
  rw [Int4.codeRows_apply (S := 1920) (B := 5) (L := 128) rfl (by decide)]
  unfold centred
  rw [iblk0, iblk2]

/-- After every point the buffer holds the array of centred codes. -/
theorem scratch (c : Dev nD) (n : ℕ) (hn : n < cfg0.N) : (outsAt0 m c n hn).2 = centred m c := by
  induction n with
  | zero =>
    rw [outsAt0_A m c ⟨0, hn⟩ rfl]
    frame_open
    exact Int4.read_rowBlocks (S := 1920) (M := 384) (B := 5) rfl (codePay m c ⟨0, hn⟩) (centred m c) (codePay_apply m c ⟨0, hn⟩) _ _ rfl
  | succ n ih =>
    have h0 : ¬ (n + 1) % 32 = 0 := by have h : n + 1 < 32 := hn; omega
    rw [outsAt0_B m c ⟨n + 1, hn⟩ h0]
    frame_open
    exact ih _

/-! ## One point of the grid -/

/-- What a block of rows stores, of the centred rows, the tile of weights and the rows' scales. -/
def gatedRows (a : Vec Ideal S384x3072 .bf16) (w : Vec Ideal S3072x512 .bf16) (s : Vec Ideal S384x1 .f32) : Vec Ideal S384x256 .f32 :=
  mulf (mulf (extractStridedSlice S384x256 ![0, 256] (Int4.scaled dot_S384x3072_S3072x512_S384x512_1_0_0_1_n_n broadcasts_S384x1_S384x512 a w s) slices_S384x512_o0_256_S384x256)
    (extractStridedSlice S384x256 ![0, 0] (Int4.scaled dot_S384x3072_S3072x512_S384x512_1_0_0_1_n_n broadcasts_S384x1_S384x512 a w s) slices_S384x512_o0_0_S384x256))
    (logistic (extractStridedSlice S384x256 ![0, 0] (Int4.scaled dot_S384x3072_S3072x512_S384x512_1_0_0_1_n_n broadcasts_S384x1_S384x512 a w s) slices_S384x512_o0_0_S384x256))

/-- Read at a place: a gated pair. -/
theorem gatedRows_gated (a : Vec Ideal S384x3072 .bf16) (w : Vec Ideal S3072x512 .bf16) (s : Vec Ideal S384x1 .f32) (y : S384x256.Idx) :
    gatedRows a w s y
      = Int4.gated (extractStridedSlice S384x256 ![0, 0] (Int4.scaled dot_S384x3072_S3072x512_S384x512_1_0_0_1_n_n broadcasts_S384x1_S384x512 a w s) slices_S384x512_o0_0_S384x256 y)
        (extractStridedSlice S384x256 ![0, 256] (Int4.scaled dot_S384x3072_S3072x512_S384x512_1_0_0_1_n_n broadcasts_S384x1_S384x512 a w s) slices_S384x512_o0_256_S384x256 y) := rfl

/-- The tile of weights of point `t`. -/
def tile (c : Dev nD) (t : Fin cfg0.N) : Vec Ideal S3072x512 .bf16 :=
  Int4.wMat (K := 3072) (N := 512) (G := 96) (n := 256) rfl rfl (iblk m c 3 t) (iblk m c 3 t) (iblk m c 4 t) (iblk m c 5 t)

/-- What point `t` leaves in its block of the result. -/
def outTile (c : Dev nD) (t : Fin cfg0.N) (y : S1920x256.Idx) : EReal :=
  Int4.gateUpSpec (m ((c : Thread nD τ).loc main_arg0)) (m ((c : Thread nD τ).loc main_arg1)) (m ((c : Thread nD τ).loc main_arg2))
    (m ((c : Thread nD τ).loc main_arg3)) (m ((c : Thread nD τ).loc main_arg4))
    (ValueIdx.ix2 (y 0) ⟨256 * t.val + (y 1).val, by have h : t.val < 32 := t.isLt; have := ValueIdx.idx2_lt1 y; omega⟩)

/-- The rows a block stores are the rows of the result, whatever load brought the centred rows. -/
theorem gatedRows_apply (c : Dev nD) (t : Fin cfg0.N) (b : ℕ) (hb : b + 1 ≤ 5) (a : Vec Ideal S384x3072 .bf16)
    (ha : ∀ (r : Fin 384) (k : Fin 3072), a (ValueIdx.ix2 r k) = centred m c (ValueIdx.ix2 (Int4.blockRow (S := 1920) rfl hb r) k)) (r : Fin 384) (l : Fin 256) :
    gatedRows a (tile m c t)
      (View.readAt (Elt Ideal) (ms0_1 t).view (Rect.unit (s := S1920x128) ![384 * b, 0] ![384, 1] (Int4.rows_inb (B := 5) rfl hb (by decide))).toLoadRect ((hs0_1 t).unread (iblk m c 1 t)))
      (ValueIdx.ix2 r l) = outTile m c t (ValueIdx.ix2 (Int4.blockRow (S := 1920) rfl hb r) l) := by
  have ht : t.val < 32 := t.isLt
  have hl := l.isLt
  have hs := Int4.readAt_rows (S := 1920) (M := 384) (B := 5) rfl hb (show 1 ≤ 128 by decide) (hs0_1 t) (iblk m c 1 t)
    (Int4.rows_inb (B := 5) rfl hb (by decide)) r 0
  have hd : dot_S384x3072_S3072x512_S384x512_1_0_0_1_n_n = DotDims.plain 384 3072 512 := rfl
  have hrow := fun cc => Int4.scaled_rows (S := 1920) (L := 128) (by decide) _ hd broadcasts_S384x1_S384x512 (384 * b) (centred m c) (iblk m c 1 t) a (tile m c t)
    (View.readAt (Elt Ideal) (ms0_1 t).view (Rect.unit (s := S1920x128) ![384 * b, 0] ![384, 1] (Int4.rows_inb (B := 5) rfl hb (by decide))).toLoadRect ((hs0_1 t).unread (iblk m c 1 t)))
    r cc (Int4.blockRow (S := 1920) rfl hb r) rfl (ha r) hs
  rw [gatedRows_gated, Int4.slice_cols 256 _ _ r l ⟨256 + l.val, by omega⟩ rfl, Int4.slice_cols 0 _ _ r l ⟨l.val, by omega⟩ (by simp), hrow, hrow]
  unfold tile
  rw [Int4.tileDot_lo (H := 8192) (T := 16384) _ _ _ _ _ _ _ _ (iblk m c 1 t) (m ((c : Thread nD τ).loc main_arg3)) (m ((c : Thread nD τ).loc main_arg4)) 0 (by decide) _ l _ (by rfl)
      ⟨256 * t.val + l.val, by omega⟩ ⟨256 * t.val + l.val, by omega⟩ (by simp) (fun k => iblk3 m c t k l _ rfl) (fun g => iblk4 m c t g l _ rfl),
    Int4.tileDot_hi (H := 8192) (T := 16384) _ _ _ _ _ _ _ _ (iblk m c 1 t) (m ((c : Thread nD τ).loc main_arg3)) (m ((c : Thread nD τ).loc main_arg4)) 8192 (by decide) _ l _ (by rfl)
      ⟨256 * t.val + l.val, by omega⟩ ⟨8192 + (256 * t.val + l.val), by omega⟩ rfl (fun k => iblk3 m c t k l _ rfl) (fun g => iblk5 m c t g l _ rfl), iblk1]
  rfl

/-- What point `t` stores, when a load of the buffer of centred codes brings them. -/
def outPayB (c : Dev nD) (t : Fin cfg0.N) (A : Vec Ideal S1920x3072 .bf16) (b : ℕ) (hb : b + 1 ≤ 5) : Vec Ideal S384x256 .f32 :=
  gatedRows (View.readAt (Elt Ideal) scM0_0.view (Rect.unit (s := S1920x3072) ![384 * b, 0] ![384, 3072] (Int4.rows_inb (B := 5) rfl hb le_rfl)).toLoadRect
      ((Memref.isWhole_whole _ : scM0_0.IsWhole).unread A)) (tile m c t)
    (View.readAt (Elt Ideal) (ms0_1 t).view (Rect.unit (s := S1920x128) ![384 * b, 0] ![384, 1] (Int4.rows_inb (B := 5) rfl hb (by decide))).toLoadRect ((hs0_1 t).unread (iblk m c 1 t)))

/-- What the first point stores, reading back the blocks it has just stored. -/
def outPayA (c : Dev nD) (t : Fin cfg0.N) (b : ℕ) (hb : b + 1 ≤ 5) : Vec Ideal S384x256 .f32 :=
  gatedRows (scM0_0.view.readCov (Int4.rowBlocks (S := 1920) (M := 384) (B := 5) rfl (codePay m c t) 5 le_rfl)
      (Rect.unit (s := S1920x3072) ![384 * b, 0] ![384, 3072] (Int4.rows_inb (B := 5) rfl hb le_rfl)).toLoadRect) (tile m c t)
    (View.readAt (Elt Ideal) (ms0_1 t).view (Rect.unit (s := S1920x128) ![384 * b, 0] ![384, 1] (Int4.rows_inb (B := 5) rfl hb (by decide))).toLoadRect ((hs0_1 t).unread (iblk m c 1 t)))

/-- EVERY POINT leaves its tile of the result. -/
theorem point (c : Dev nD) (t : Fin cfg0.N) : (outsAt0 m c t.val t.isLt).1 = outTile m c t := by
  by_cases h0 : t.val % 32 = 0
  · rw [outsAt0_A m c t h0]
    frame_open
    rw [Int4.readCov_tile (K := 3072) (N := 512) (G := 96) (n := 256) rfl rfl (iblk m c 3 t) (iblk m c 4 t) (iblk m c 5 t) bitcasts_S32x256_w8_S8x256_w32 bitcasts_S8x256_w32_S32x256_w8 shapeCasts_S1x256_S1x256 broadcasts_S1x256_S32x256 shapeCasts_S32x256_S32x256 bitsLt_bf16_f32 (ms0_3 t) (hs0_3 t) (ms0_4 t) (hs0_4 t) (ms0_5 t) (hs0_5 t)]
    · exact Int4.read_rowBlocks (S := 1920) (M := 384) (B := 5) rfl (outPayA m c t) (outTile m c t)
        (fun b hb r l => gatedRows_apply m c t b hb _ (fun r k => Int4.readCov_rows (S := 1920) (M := 384) (B := 5) rfl (codePay m c t) (centred m c)
          (codePay_apply m c t) _ hb _ r k) r l) _ _ rfl
    · rfl
  · rw [outsAt0_B m c t h0]
    frame_open
    rw [Int4.readCov_tile (K := 3072) (N := 512) (G := 96) (n := 256) rfl rfl (iblk m c 3 t) (iblk m c 4 t) (iblk m c 5 t) bitcasts_S32x256_w8_S8x256_w32 bitcasts_S8x256_w32_S32x256_w8 shapeCasts_S1x256_S1x256 broadcasts_S1x256_S32x256 shapeCasts_S32x256_S32x256 bitsLt_bf16_f32 (ms0_3 t) (hs0_3 t) (ms0_4 t) (hs0_4 t) (ms0_5 t) (hs0_5 t)]
    · exact Int4.read_rowBlocks (S := 1920) (M := 384) (B := 5) rfl (outPayB m c t (outsAt0 m c (t.val - 1) (lt_of_le_of_lt (Nat.sub_le _ _) t.isLt)).2) (outTile m c t)
        (fun b hb r l => gatedRows_apply m c t b hb _ (fun r k => by
          rw [scratch]
          exact Int4.readAt_rows (S := 1920) (M := 384) (B := 5) rfl hb le_rfl _ (centred m c) _ r k) r l) _ _ rfl
    · rfl

/-! ## The whole result -/

/-- THE KERNEL: the result array after the run. -/
theorem kernel_eq (c : Dev nD) : (dats m 0 c).arrAt 6 cfg0.N
    = (Int4.gateUpSpec (m ((c : Thread nD τ).loc main_arg0)) (m ((c : Thread nD τ).loc main_arg1)) (m ((c : Thread nD τ).loc main_arg2))
        (m ((c : Thread nD τ).loc main_arg3)) (m ((c : Thread nD τ).loc main_arg4)) : Vec Ideal S1920x8192 .f32) := by
  refine (dats m 0 c).arrAt_eq_of_covers 6 _ (by decide +kernel) fun t hf y => ?_
  blk_simp
  rw [after0_6]
  refine (congrFun (point m c t) _).trans ?_
  unfold outTile
  refine congrArg (Int4.gateUpSpec _ _ _ _ _) ?_
  have i6 := (idx t).2.2.2.2.2.2
  have e0 : (((win0_6.blk t).view.emb y (0 : Fin 2) : Fin _) : ℕ) = (y 0).val := by blk_simp [i6]
  have e1 : (((win0_6.blk t).view.emb y (1 : Fin 2) : Fin _) : ℕ) = t.val * 256 + (y 1).val := by blk_simp [i6]
  funext a
  match a with
  | ⟨0, _⟩ => exact Fin.ext e0.symm
  | ⟨1, _⟩ => exact Fin.ext (Eq.trans (by show 256 * t.val + (y 1).val = t.val * 256 + (y 1).val; omega) e1.symm)

end Cert.GateUpIdeal.Hand
-- ==== Proof.DownRef.lean ====
/-
  The reference's down product with its residual, over the extended reals: its two results are `addedSpec` of the low and of the
  high nibbles, at every row and column.
-/
module

public import proofs.«01_k».proof.Proof.Gen.DownRefIdeal.Run
public import proofs.«01_k».proof.Proof.Linear

@[expose] public section

set_option maxRecDepth 16384
set_option maxHeartbeats 1000000

noncomputable section

namespace Int4

open Idealize.ShloMosaic

/-- A result of the down product at a place: the residual plus the product with one nibble of every byte. -/
def downSpec (nib : BitVec 8 → ℤ) (off : ℕ) (hoff : off + 1536 ≤ 3072) (A : (⟨2, ![1920, 8192]⟩ : Shape).Idx → EReal)
    (S : (⟨2, ![1920, 128]⟩ : Shape).Idx → EReal) (W : (⟨2, ![8192, 1536]⟩ : Shape).Idx → BitVec 8)
    (Sc : (⟨2, ![256, 3072]⟩ : Shape).Idx → EReal) (R : (⟨2, ![1920, 1536]⟩ : Shape).Idx → EReal) (y : (⟨2, ![1920, 1536]⟩ : Shape).Idx) : EReal :=
  R y + dotNib (K := 8192) (G := 256) (L := 128) rfl (by decide) nib A W Sc off hoff S (y 0) (y 1)

end Int4

namespace Cert.DownRefIdeal.Hand

open Cert.DownRefIdeal Cert.DownRefIdeal.Gen Idealize.ShloMosaic Idealize.ShloMosaic.TcCoe Idealize.SL.Sem

variable (A : FVec Ideal S1920x8192 .bf16) (S : FVec Ideal S1920x128 .f32) (W : IVec S8192x1536 8) (Sc : FVec Ideal S256x3072 .f32) (R : FVec Ideal S1920x1536 .f32)

/-- The low result as the reference writes it. -/
def lowPlain : FVec Ideal S1920x1536 .bf16 :=
  truncf .bf16 (addf R (Int4.plainProduct (S := 1920) (K := 8192) (H := 1536) (G := 256) (T := 3072) (L := 128) dot_S1920x8192_S8192x1536_S1920x1536_1_0_0_1_n_n 0
    shapeCasts_S8192x1536_S256x32x1536 bcast_S256x1x1536_S256x32x1536_0_1_2 bcast_S256x1536_S256x1x1536_0_2 slices_S256x3072_S256x1536_0_0 shapeCasts_S256x32x1536_S8192x1536 bitsLt_bf16_f32
    bcast_S1920x1_S1920x1536_0_1 slices_S1920x128_S1920x1_0_0 A (Int4.plainLo bcast_S_S8192x1536 natLt_8_32 W) Sc S)) bitsLt_bf16_f32

/-- The high result as the reference writes it. -/
def highPlain : FVec Ideal S1920x1536 .bf16 :=
  truncf .bf16 (addf R (Int4.plainProduct (S := 1920) (K := 8192) (H := 1536) (G := 256) (T := 3072) (L := 128) dot_S1920x8192_S8192x1536_S1920x1536_1_0_0_1_n_n 1536
    shapeCasts_S8192x1536_S256x32x1536 bcast_S256x1x1536_S256x32x1536_0_1_2 bcast_S256x1536_S256x1x1536_0_2 slices_S256x3072_S256x1536_0_1536 shapeCasts_S256x32x1536_S8192x1536 bitsLt_bf16_f32
    bcast_S1920x1_S1920x1536_0_1 slices_S1920x128_S1920x1_0_0 A (Int4.plainHi bcast_S_S8192x1536 natLt_8_32 W) Sc S)) bitsLt_bf16_f32

/-- The low result, at every place. -/
theorem lowPlain_eq : lowPlain A S W Sc R = (Int4.downSpec Int4.nibLo 0 (by decide) A S W Sc R : Vec Ideal S1920x1536 .bf16) := by
  funext y
  obtain ⟨r, l, rfl⟩ : ∃ (r : Fin 1920) (l : Fin 1536), y = ValueIdx.ix2 r l := ⟨y 0, y 1, ValueIdx.eq_ix2 y⟩
  have hd : dot_S1920x8192_S8192x1536_S1920x1536_1_0_0_1_n_n = DotDims.plain 1920 8192 1536 := rfl
  exact congrArg (fun z : EReal => (R (ValueIdx.ix2 r l) : EReal) + z)
    (Int4.plainProduct_apply (S := 1920) (K := 8192) (H := 1536) (G := 256) (T := 3072) (L := 128) rfl (by decide) _ hd 0 (by decide) _ _ _ _ _ _ _ _ _ _ _ _
      Int4.nibLo W (Int4.plainLo_toInt _ _ _) r l)

/-- The high result, at every place. -/
theorem highPlain_eq : highPlain A S W Sc R = (Int4.downSpec Int4.nibHi 1536 (by decide) A S W Sc R : Vec Ideal S1920x1536 .bf16) := by
  funext y
  obtain ⟨r, l, rfl⟩ : ∃ (r : Fin 1920) (l : Fin 1536), y = ValueIdx.ix2 r l := ⟨y 0, y 1, ValueIdx.eq_ix2 y⟩
  have hd : dot_S1920x8192_S8192x1536_S1920x1536_1_0_0_1_n_n = DotDims.plain 1920 8192 1536 := rfl
  exact congrArg (fun z : EReal => (R (ValueIdx.ix2 r l) : EReal) + z)
    (Int4.plainProduct_apply (S := 1920) (K := 8192) (H := 1536) (G := 256) (T := 3072) (L := 128) rfl (by decide) _ hd 1536 (by decide) _ _ _ _ _ _ _ _ _ _ _ _
      Int4.nibHi W (Int4.plainHi_toInt _ _ _) r l)

/-- THE REFERENCE: its run ends with the two results at `downSpec`, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40) = (Int4.downSpec Int4.nibLo 0 (by decide) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) : Vec Ideal S1920x1536 .bf16)
      ∧ r.2.mem ((c.tc : Thread nD τ).loc main_v42) = (Int4.downSpec Int4.nibHi 1536 (by decide) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg5)) : Vec Ideal S1920x1536 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans (Eq.trans ?_ (lowPlain_eq _ _ _ _ _)), (h c).2.1.trans (Eq.trans ?_ (highPlain_eq _ _ _ _ _)), (h c).2.2⟩)
    (Cert.DownRefIdeal.Value.run (F := Ideal) m ρ)
  · unfold lowPlain Int4.plainProduct Int4.plainLo
    rfl
  · unfold highPlain Int4.plainProduct Int4.plainHi
    rfl

end Cert.DownRefIdeal.Hand
-- ==== Proof.DownStep.lean ====
/-
  The down product with its residual, over the extended reals: what one point of the kernel's grid reads and stores.

  The grid walks the tiles of 128 columns. Every point unpacks its tile of weights, multiplies five blocks of 384 rows by it and
  stores the two halves, added to the residual, in the two results.
-/
module

public import proofs.«01_k».proof.Proof.Gen.DownIdeal.Value
public import proofs.«01_k».proof.Proof.DownRef

@[expose] public section

set_option maxRecDepth 16384
set_option maxHeartbeats 1000000

noncomputable section

namespace Cert.DownIdeal.Hand

open Cert.DownIdeal Cert.DownIdeal.Gen Idealize.ShloMosaic Idealize.ShloMosaic.TcCoe Idealize.SL.Sem
open Idealize.ShloMosaic.Pipeline (Dat)

/-! ## What the kernel reads -/

variable (m : (ℓ : Loc nD τ sig) → Buf (Elt Ideal) ℓ)

/-- Where each window's block stands at each point of the grid. -/
theorem idx : ∀ t : Fin cfg0.N, win0_0.index t = ![0, 0] ∧ win0_1.index t = ![0, 0] ∧ win0_2.index t = ![0, t.val]
    ∧ win0_3.index t = ![0, t.val] ∧ win0_4.index t = ![0, 12 + t.val] ∧ win0_5.index t = ![0, t.val] ∧ win0_6.index t = ![0, t.val]
    ∧ win0_7.index t = ![0, t.val] ∧ win0_8.index t = ![0, t.val] :=
  (by decide +kernel : ∀ t : Fin grid0.N, _)

/-- The centred codes are read whole. -/
theorem iblk0 (c : Dev nD) (t : Fin cfg0.N) : (iblk m c 0 t : Vec Ideal S1920x8192 .bf16) = m ((c : Thread nD τ).loc main_arg0) := by
  funext y; blk_point [iblk, V, idx t]

/-- The scales of the rows are read whole. -/
theorem iblk1 (c : Dev nD) (t : Fin cfg0.N) : (iblk m c 1 t : Vec Ideal S1920x128 .f32) = m ((c : Thread nD τ).loc main_arg1) := by
  funext y; blk_point [iblk, V, idx t]

/-- The bytes of tile `t`. -/
theorem iblk2 (c : Dev nD) (t : Fin cfg0.N) (k : Fin 8192) (l : Fin 128) (c' : Fin 1536) (h : c'.val = 128 * t.val + l.val) :
    (iblk m c 2 t : Vec Ideal S8192x128 .i8) (ValueIdx.ix2 k l) = (m ((c : Thread nD τ).loc main_arg2) : Vec Ideal S8192x1536 .i8) (ValueIdx.ix2 k c') := by
  blk_point [iblk, V, idx t]
  show t.val * 128 + l.val = c'.val
  omega

/-- The scales of the low half of tile `t`. -/
theorem iblk3 (c : Dev nD) (t : Fin cfg0.N) (g : Fin 256) (l : Fin 128) (c' : Fin 3072) (h : c'.val = 128 * t.val + l.val) :
    (iblk m c 3 t : Vec Ideal S256x128 .f32) (ValueIdx.ix2 g l) = (m ((c : Thread nD τ).loc main_arg3) : Vec Ideal S256x3072 .f32) (ValueIdx.ix2 g c') := by
  blk_point [iblk, V, idx t]
  show t.val * 128 + l.val = c'.val
  omega

/-- The scales of the high half of tile `t`. -/
theorem iblk4 (c : Dev nD) (t : Fin cfg0.N) (g : Fin 256) (l : Fin 128) (c' : Fin 3072) (h : c'.val = 1536 + (128 * t.val + l.val)) :
    (iblk m c 4 t : Vec Ideal S256x128 .f32) (ValueIdx.ix2 g l) = (m ((c : Thread nD τ).loc main_arg3) : Vec Ideal S256x3072 .f32) (ValueIdx.ix2 g c') := by
  blk_point [iblk, V, idx t]
  show (12 + t.val) * 128 + l.val = c'.val
  omega

/-- The residual of the low half of tile `t`. -/
theorem iblk5 (c : Dev nD) (t : Fin cfg0.N) (r : Fin 1920) (l : Fin 128) (c' : Fin 1536) (h : c'.val = 128 * t.val + l.val) :
    (iblk m c 5 t : Vec Ideal S1920x128 .f32) (ValueIdx.ix2 r l) = (m ((c : Thread nD τ).loc main_arg4) : Vec Ideal S1920x1536 .f32) (ValueIdx.ix2 r c') := by
  blk_point [iblk, V, idx t]
  show t.val * 128 + l.val = c'.val
  omega

/-- The residual of the high half of tile `t`. -/
theorem iblk6 (c : Dev nD) (t : Fin cfg0.N) (r : Fin 1920) (l : Fin 128) (c' : Fin 1536) (h : c'.val = 128 * t.val + l.val) :
    (iblk m c 6 t : Vec Ideal S1920x128 .f32) (ValueIdx.ix2 r l) = (m ((c : Thread nD τ).loc main_arg5) : Vec Ideal S1920x1536 .f32) (ValueIdx.ix2 r c') := by
  blk_point [iblk, V, idx t]
  show t.val * 128 + l.val = c'.val
  omega

/-! ## One point of the grid -/

/-- The tile of weights of point `t`. -/
def tile (c : Dev nD) (t : Fin cfg0.N) : Vec Ideal S8192x256 .bf16 :=
  Int4.wMat (K := 8192) (N := 256) (G := 256) (n := 128) rfl rfl (iblk m c 2 t) (iblk m c 2 t) (iblk m c 3 t) (iblk m c 4 t)

/-- The load of the rows of block `b` of the centred codes. -/
def codeLoad (c : Dev nD) (t : Fin cfg0.N) (b : ℕ) (hb : b + 1 ≤ 5) : Vec Ideal S384x8192 .bf16 :=
  View.readAt (Elt Ideal) (ms0_0 t).view (Rect.unit (s := S1920x8192) ![384 * b, 0] ![384, 8192] (Int4.rows_inb (B := 5) rfl hb le_rfl)).toLoadRect ((hs0_0 t).unread (iblk m c 0 t))

/-- The load of the scales of the rows of block `b`. -/
def scaleLoad (c : Dev nD) (t : Fin cfg0.N) (b : ℕ) (hb : b + 1 ≤ 5) : Vec Ideal S384x1 .f32 :=
  View.readAt (Elt Ideal) (ms0_1 t).view (Rect.unit (s := S1920x128) ![384 * b, 0] ![384, 1] (Int4.rows_inb (B := 5) rfl hb (by decide))).toLoadRect ((hs0_1 t).unread (iblk m c 1 t))

/-- The product of the rows of block `b` with the tile of point `t`, scaled by row. -/
def blockProduct (c : Dev nD) (t : Fin cfg0.N) (b : ℕ) (hb : b + 1 ≤ 5) : Vec Ideal S384x256 .f32 :=
  Int4.scaled dot_S384x8192_S8192x256_S384x256_1_0_0_1_n_n broadcasts_S384x1_S384x256 (codeLoad m c t b hb) (tile m c t) (scaleLoad m c t b hb)

/-- That product at a place. -/
theorem blockProduct_apply (c : Dev nD) (t : Fin cfg0.N) (b : ℕ) (hb : b + 1 ≤ 5) (r : Fin 384) (cc : Fin 256) :
    blockProduct m c t b hb (ValueIdx.ix2 r cc)
      = Int4.tileDot (L := 128) (by decide) (iblk m c 0 t : Vec Ideal S1920x8192 .bf16) (tile m c t) (iblk m c 1 t : Vec Ideal S1920x128 .f32) (Int4.blockRow (S := 1920) rfl hb r) cc := by
  have hd : dot_S384x8192_S8192x256_S384x256_1_0_0_1_n_n = DotDims.plain 384 8192 256 := rfl
  exact Int4.scaled_rows (S := 1920) (L := 128) (by decide) _ hd broadcasts_S384x1_S384x256 (384 * b) (iblk m c 0 t) (iblk m c 1 t) (codeLoad m c t b hb) (tile m c t)
    (scaleLoad m c t b hb) r cc (Int4.blockRow (S := 1920) rfl hb r) rfl
    (fun k => Int4.readAt_rows (S := 1920) (M := 384) (B := 5) rfl hb le_rfl (hs0_0 t) (iblk m c 0 t) (Int4.rows_inb (B := 5) rfl hb le_rfl) r k)
    (Int4.readAt_rows (S := 1920) (M := 384) (B := 5) rfl hb (show 1 ≤ 128 by decide) (hs0_1 t) (iblk m c 1 t) (Int4.rows_inb (B := 5) rfl hb (by decide)) r 0)

/-- The place in a result of place `y` of its block `t`. -/
def place (t : Fin cfg0.N) (y : S1920x128.Idx) : S1920x1536.Idx :=
  ValueIdx.ix2 (y 0) ⟨128 * t.val + (y 1).val, by have h : t.val < 12 := t.isLt; have := ValueIdx.idx2_lt1 y; omega⟩

/-- What the kernel stores of block `b` in the low result. -/
def lowPay (c : Dev nD) (t : Fin cfg0.N) (b : ℕ) (hb : b + 1 ≤ 5) : Vec Ideal S384x128 .bf16 :=
  truncf (F := Ideal) .bf16 (addf (View.readAt (Elt Ideal) (ms0_5 t).view (Rect.unit (s := S1920x128) ![384 * b, 0] ![384, 128] (Int4.rows_inb (B := 5) rfl hb le_rfl)).toLoadRect ((hs0_5 t).unread (iblk m c 5 t)))
    (extractStridedSlice S384x128 ![0, 0] (blockProduct m c t b hb) slices_S384x256_o0_0_S384x128)) bitsLt_bf16_f32

/-- What the kernel stores of block `b` in the high result. -/
def highPay (c : Dev nD) (t : Fin cfg0.N) (b : ℕ) (hb : b + 1 ≤ 5) : Vec Ideal S384x128 .bf16 :=
  truncf (F := Ideal) .bf16 (addf (View.readAt (Elt Ideal) (ms0_6 t).view (Rect.unit (s := S1920x128) ![384 * b, 0] ![384, 128] (Int4.rows_inb (B := 5) rfl hb le_rfl)).toLoadRect ((hs0_6 t).unread (iblk m c 6 t)))
    (extractStridedSlice S384x128 ![0, 128] (blockProduct m c t b hb) slices_S384x256_o0_128_S384x128)) bitsLt_bf16_f32

/-- The low result of the kernel. -/
def lowSpec (c : Dev nD) : S1920x1536.Idx → EReal :=
  Int4.downSpec Int4.nibLo 0 (by decide) (m ((c : Thread nD τ).loc main_arg0)) (m ((c : Thread nD τ).loc main_arg1)) (m ((c : Thread nD τ).loc main_arg2))
    (m ((c : Thread nD τ).loc main_arg3)) (m ((c : Thread nD τ).loc main_arg4))

/-- The high result of the kernel. -/
def highSpec (c : Dev nD) : S1920x1536.Idx → EReal :=
  Int4.downSpec Int4.nibHi 1536 (by decide) (m ((c : Thread nD τ).loc main_arg0)) (m ((c : Thread nD τ).loc main_arg1)) (m ((c : Thread nD τ).loc main_arg2))
    (m ((c : Thread nD τ).loc main_arg3)) (m ((c : Thread nD τ).loc main_arg5))

/-- The stored low rows are rows of the low result. -/
theorem lowPay_apply (c : Dev nD) (t : Fin cfg0.N) (b : ℕ) (hb : b + 1 ≤ 5) (r : Fin 384) (l : Fin 128) :
    lowPay m c t b hb (ValueIdx.ix2 r l) = lowSpec m c (place t (ValueIdx.ix2 (Int4.blockRow (S := 1920) rfl hb r) l)) := by
  have ht : t.val < 12 := t.isLt
  have hl := l.isLt
  refine (congrArg₂ (fun u v : EReal => u + v)
    (Int4.readAt_rows (S := 1920) (M := 384) (B := 5) rfl hb (show 128 ≤ 128 by decide) (hs0_5 t) (iblk m c 5 t) (Int4.rows_inb (B := 5) rfl hb le_rfl) r l)
    (Int4.slice_cols 0 slices_S384x256_o0_0_S384x128 (blockProduct m c t b hb) r l ⟨l.val, by omega⟩ (by simp))).trans ?_
  rw [blockProduct_apply]
  unfold tile
  rw [Int4.tileDot_lo (H := 1536) (T := 3072) _ _ _ _ _ _ _ _ (iblk m c 1 t) (m ((c : Thread nD τ).loc main_arg2)) (m ((c : Thread nD τ).loc main_arg3)) 0 (by decide) _ l _ (by rfl)
      ⟨128 * t.val + l.val, by omega⟩ ⟨128 * t.val + l.val, by omega⟩ (by simp) (fun k => iblk2 m c t k l _ rfl) (fun g => iblk3 m c t g l _ rfl), iblk0, iblk1]
  refine congrArg (fun z : EReal => z + _) ?_
  exact iblk5 m c t _ _ ⟨128 * t.val + l.val, by omega⟩ rfl

/-- The stored high rows are rows of the high result. -/
theorem highPay_apply (c : Dev nD) (t : Fin cfg0.N) (b : ℕ) (hb : b + 1 ≤ 5) (r : Fin 384) (l : Fin 128) :
    highPay m c t b hb (ValueIdx.ix2 r l) = highSpec m c (place t (ValueIdx.ix2 (Int4.blockRow (S := 1920) rfl hb r) l)) := by
  have ht : t.val < 12 := t.isLt
  have hl := l.isLt
  refine (congrArg₂ (fun u v : EReal => u + v)
    (Int4.readAt_rows (S := 1920) (M := 384) (B := 5) rfl hb (show 128 ≤ 128 by decide) (hs0_6 t) (iblk m c 6 t) (Int4.rows_inb (B := 5) rfl hb le_rfl) r l)
    (Int4.slice_cols 128 slices_S384x256_o0_128_S384x128 (blockProduct m c t b hb) r l ⟨128 + l.val, by omega⟩ rfl)).trans ?_
  rw [blockProduct_apply]
  unfold tile
  rw [Int4.tileDot_hi (H := 1536) (T := 3072) _ _ _ _ _ _ _ _ (iblk m c 1 t) (m ((c : Thread nD τ).loc main_arg2)) (m ((c : Thread nD τ).loc main_arg3)) 1536 (by decide) _ l _ (by rfl)
      ⟨128 * t.val + l.val, by omega⟩ ⟨1536 + (128 * t.val + l.val), by omega⟩ rfl (fun k => iblk2 m c t k l _ rfl) (fun g => iblk4 m c t g l _ rfl), iblk0, iblk1]
  refine congrArg (fun z : EReal => z + _) ?_
  exact iblk6 m c t _ _ ⟨128 * t.val + l.val, by omega⟩ rfl

end Cert.DownIdeal.Hand
-- ==== Proof.Down.lean ====
/-
  The down product with its residual, over the extended reals: the two arrays the kernel leaves are `downSpec` of the low and of the
  high nibbles, at every row and column. Every point leaves its block of each (`pointLow`, `pointHigh`); the blocks written back
  tile each result (`low_eq`, `high_eq`).
-/
module

public import proofs.«01_k».proof.Proof.DownStep

@[expose] public section

set_option maxRecDepth 16384
set_option maxHeartbeats 1000000

noncomputable section

namespace Cert.DownIdeal.Hand

open Cert.DownIdeal Cert.DownIdeal.Gen Idealize.ShloMosaic Idealize.ShloMosaic.TcCoe Idealize.SL.Sem
open Idealize.ShloMosaic.Pipeline (Dat)

variable (m : (ℓ : Loc nD τ sig) → Buf (Elt Ideal) ℓ)

/-- EVERY POINT leaves its block of the low result. -/
theorem pointLow (c : Dev nD) (t : Fin cfg0.N) : (outsAt0 m c t).1 = fun y => lowSpec m c (place t y) := by
  unfold outsAt0
  frame_open
  rw [Int4.readCov_tile (K := 8192) (N := 256) (G := 256) (n := 128) rfl rfl (iblk m c 2 t) (iblk m c 3 t) (iblk m c 4 t) bitcasts_S32x128_w8_S8x128_w32 bitcasts_S8x128_w32_S32x128_w8 shapeCasts_S1x128_S1x128 broadcasts_S1x128_S32x128 shapeCasts_S32x128_S32x128 bitsLt_bf16_f32 (ms0_2 t) (hs0_2 t) (ms0_3 t) (hs0_3 t) (ms0_4 t) (hs0_4 t)]
  · exact Int4.read_rowBlocks (e := .bf16) (S := 1920) (M := 384) (B := 5) rfl (lowPay m c t) (fun y => lowSpec m c (place t y)) (lowPay_apply m c t) _ _ rfl
  · rfl

/-- EVERY POINT leaves its block of the high result. -/
theorem pointHigh (c : Dev nD) (t : Fin cfg0.N) : (outsAt0 m c t).2 = fun y => highSpec m c (place t y) := by
  unfold outsAt0
  frame_open
  rw [Int4.readCov_tile (K := 8192) (N := 256) (G := 256) (n := 128) rfl rfl (iblk m c 2 t) (iblk m c 3 t) (iblk m c 4 t) bitcasts_S32x128_w8_S8x128_w32 bitcasts_S8x128_w32_S32x128_w8 shapeCasts_S1x128_S1x128 broadcasts_S1x128_S32x128 shapeCasts_S32x128_S32x128 bitsLt_bf16_f32 (ms0_2 t) (hs0_2 t) (ms0_3 t) (hs0_3 t) (ms0_4 t) (hs0_4 t)]
  · exact Int4.read_rowBlocks (e := .bf16) (S := 1920) (M := 384) (B := 5) rfl (highPay m c t) (fun y => highSpec m c (place t y)) (highPay_apply m c t) _ _ rfl
  · rfl

/-! ## The whole results -/

/-- THE KERNEL: the low result after the run. -/
theorem low_eq (c : Dev nD) : (dats m 0 c).arrAt 7 cfg0.N = (lowSpec m c : Vec Ideal S1920x1536 .bf16) := by
  refine (dats m 0 c).arrAt_eq_of_covers 7 _ (by decide +kernel) fun t hf y => ?_
  blk_simp
  rw [after0_7]
  refine (congrFun (pointLow m c t) _).trans ?_
  refine congrArg (lowSpec m c) ?_
  have i7 := (idx t).2.2.2.2.2.2.2.1
  have e0 : (((win0_7.blk t).view.emb y (0 : Fin 2) : Fin _) : ℕ) = (y 0).val := by blk_simp [i7]
  have e1 : (((win0_7.blk t).view.emb y (1 : Fin 2) : Fin _) : ℕ) = t.val * 128 + (y 1).val := by blk_simp [i7]
  funext a
  match a with
  | ⟨0, _⟩ => exact Fin.ext e0.symm
  | ⟨1, _⟩ => exact Fin.ext (Eq.trans (by show 128 * t.val + (y 1).val = t.val * 128 + (y 1).val; omega) e1.symm)

/-- THE KERNEL: the high result after the run. -/
theorem high_eq (c : Dev nD) : (dats m 0 c).arrAt 8 cfg0.N = (highSpec m c : Vec Ideal S1920x1536 .bf16) := by
  refine (dats m 0 c).arrAt_eq_of_covers 8 _ (by decide +kernel) fun t hf y => ?_
  blk_simp
  rw [after0_8]
  refine (congrFun (pointHigh m c t) _).trans ?_
  refine congrArg (highSpec m c) ?_
  have i8 := (idx t).2.2.2.2.2.2.2.2
  have e0 : (((win0_8.blk t).view.emb y (0 : Fin 2) : Fin _) : ℕ) = (y 0).val := by blk_simp [i8]
  have e1 : (((win0_8.blk t).view.emb y (1 : Fin 2) : Fin _) : ℕ) = t.val * 128 + (y 1).val := by blk_simp [i8]
  funext a
  match a with
  | ⟨0, _⟩ => exact Fin.ext e0.symm
  | ⟨1, _⟩ => exact Fin.ext (Eq.trans (by show 128 * t.val + (y 1).val = t.val * 128 + (y 1).val; omega) e1.symm)

end Cert.DownIdeal.Hand
-- ==== Proof.QkvRef.lean ====
/-
  The reference's query, key and value product, over the extended reals: its two results are `qkvSpec` of the low and of the high nibbles, at every row and
  column.
-/
module

public import proofs.«01_k».proof.Proof.Gen.QkvRefIdeal.Run
public import proofs.«01_k».proof.Proof.Linear

@[expose] public section

set_option maxRecDepth 16384
set_option maxHeartbeats 1000000

noncomputable section

namespace Int4

open Idealize.ShloMosaic

/-- A result of the query, key and value product at a place: the product with one nibble of every byte. -/
def qkvSpec (nib : BitVec 8 → ℤ) (off : ℕ) (hoff : off + 2560 ≤ 5120) (X : (⟨2, ![1920, 3072]⟩ : Shape).Idx → BitVec 8)
    (S Z : (⟨2, ![1920, 128]⟩ : Shape).Idx → EReal) (W : (⟨2, ![3072, 2560]⟩ : Shape).Idx → BitVec 8)
    (Sc : (⟨2, ![96, 5120]⟩ : Shape).Idx → EReal) (y : (⟨2, ![1920, 2560]⟩ : Shape).Idx) : EReal :=
  dotNib (K := 3072) (G := 96) (L := 128) rfl (by decide) nib (codesMinusZero (L := 128) (by decide) X Z) W Sc off hoff S (y 0) (y 1)

end Int4

namespace Cert.QkvRefIdeal.Hand

open Cert.QkvRefIdeal Cert.QkvRefIdeal.Gen Idealize.ShloMosaic Idealize.ShloMosaic.TcCoe Idealize.SL.Sem

variable (X : IVec S1920x3072 8) (S Z : FVec Ideal S1920x128 .f32) (W : IVec S3072x2560 8) (Sc : FVec Ideal S96x5120 .f32)

/-- The low result as the reference writes it. -/
def lowPlain : FVec Ideal S1920x2560 .f32 :=
  Int4.plainProduct (S := 1920) (K := 3072) (H := 2560) (G := 96) (T := 5120) (L := 128) dot_S1920x3072_S3072x2560_S1920x2560_1_0_0_1_n_n 0
    shapeCasts_S3072x2560_S96x32x2560 bcast_S96x1x2560_S96x32x2560_0_1_2 bcast_S96x2560_S96x1x2560_0_2 slices_S96x5120_S96x2560_0_0 shapeCasts_S96x32x2560_S3072x2560 bitsLt_bf16_f32
    bcast_S1920x1_S1920x2560_0_1 slices_S1920x128_S1920x1_0_0
    (Int4.plainCodes natLt_8_32 slices_S1920x128_S1920x1_0_0 bcast_S1920x1_S1920x3072_0_1 bitsLt_bf16_f32 X Z) (Int4.plainLo bcast_S_S3072x2560 natLt_8_32 W) Sc S

/-- The low result, at every place. -/
theorem lowPlain_eq : lowPlain X S Z W Sc = (Int4.qkvSpec Int4.nibLo 0 (by decide) X S Z W Sc : Vec Ideal S1920x2560 .f32) := by
  funext y
  obtain ⟨r, l, rfl⟩ : ∃ (r : Fin 1920) (l : Fin 2560), y = ValueIdx.ix2 r l := ⟨y 0, y 1, ValueIdx.eq_ix2 y⟩
  have hd : dot_S1920x3072_S3072x2560_S1920x2560_1_0_0_1_n_n = DotDims.plain 1920 3072 2560 := rfl
  refine (Int4.plainProduct_apply (S := 1920) (K := 3072) (H := 2560) (G := 96) (T := 5120) (L := 128) rfl (by decide) _ hd 0 (by decide) _ _ _ _ _ _ _ _ _ _ _ _
      Int4.nibLo W (Int4.plainLo_toInt _ _ _) r l).trans ?_
  rw [Int4.plainCodes_eq (L := 128) (by decide)]
  rfl

/-- The high result as the reference writes it. -/
def highPlain : FVec Ideal S1920x2560 .f32 :=
  Int4.plainProduct (S := 1920) (K := 3072) (H := 2560) (G := 96) (T := 5120) (L := 128) dot_S1920x3072_S3072x2560_S1920x2560_1_0_0_1_n_n 2560
    shapeCasts_S3072x2560_S96x32x2560 bcast_S96x1x2560_S96x32x2560_0_1_2 bcast_S96x2560_S96x1x2560_0_2 slices_S96x5120_S96x2560_0_2560 shapeCasts_S96x32x2560_S3072x2560 bitsLt_bf16_f32
    bcast_S1920x1_S1920x2560_0_1 slices_S1920x128_S1920x1_0_0
    (Int4.plainCodes natLt_8_32 slices_S1920x128_S1920x1_0_0 bcast_S1920x1_S1920x3072_0_1 bitsLt_bf16_f32 X Z) (Int4.plainHi bcast_S_S3072x2560 natLt_8_32 W) Sc S

/-- The high result, at every place. -/
theorem highPlain_eq : highPlain X S Z W Sc = (Int4.qkvSpec Int4.nibHi 2560 (by decide) X S Z W Sc : Vec Ideal S1920x2560 .f32) := by
  funext y
  obtain ⟨r, l, rfl⟩ : ∃ (r : Fin 1920) (l : Fin 2560), y = ValueIdx.ix2 r l := ⟨y 0, y 1, ValueIdx.eq_ix2 y⟩
  have hd : dot_S1920x3072_S3072x2560_S1920x2560_1_0_0_1_n_n = DotDims.plain 1920 3072 2560 := rfl
  refine (Int4.plainProduct_apply (S := 1920) (K := 3072) (H := 2560) (G := 96) (T := 5120) (L := 128) rfl (by decide) _ hd 2560 (by decide) _ _ _ _ _ _ _ _ _ _ _ _
      Int4.nibHi W (Int4.plainHi_toInt _ _ _) r l).trans ?_
  rw [Int4.plainCodes_eq (L := 128) (by decide)]
  rfl

/-- THE REFERENCE: its run ends with the two results at `qkvSpec`, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40) = (Int4.qkvSpec Int4.nibLo 0 (by decide) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) : Vec Ideal S1920x2560 .f32)
      ∧ r.2.mem ((c.tc : Thread nD τ).loc main_v44) = (Int4.qkvSpec Int4.nibHi 2560 (by decide) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) : Vec Ideal S1920x2560 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun _ h c => ⟨(h c).1.trans (Eq.trans ?_ (lowPlain_eq _ _ _ _ _)), (h c).2.1.trans (Eq.trans ?_ (highPlain_eq _ _ _ _ _)), (h c).2.2⟩)
    (Cert.QkvRefIdeal.Value.run (F := Ideal) m ρ)
  · unfold lowPlain Int4.plainProduct Int4.plainCodes Int4.plainLo
    rfl
  · unfold highPlain Int4.plainProduct Int4.plainCodes Int4.plainHi
    rfl

end Cert.QkvRefIdeal.Hand
-- ==== Proof.QkvStep.lean ====
/-
  The query, key and value product, over the extended reals: what one point of the kernel's grid reads and stores.

  The grid walks the tiles of 256 columns. The first point stores the centred codes in a buffer that later points read again
  (`scratch`). Every point unpacks its tile of weights, multiplies five blocks of 384 rows by it and stores the two halves in the two
  results.
-/
module

public import proofs.«01_k».proof.Proof.Gen.QkvIdeal.Value
public import proofs.«01_k».proof.Proof.QkvRef

@[expose] public section

set_option maxRecDepth 16384
set_option maxHeartbeats 1000000

noncomputable section

namespace Cert.QkvIdeal.Hand

open Cert.QkvIdeal Cert.QkvIdeal.Gen Idealize.ShloMosaic Idealize.ShloMosaic.TcCoe Idealize.SL.Sem
open Idealize.ShloMosaic.Pipeline (Dat)

variable (m : (ℓ : Loc nD τ sig) → Buf (Elt Ideal) ℓ)

/-! ## What the kernel reads -/

/-- Where each window's block stands at each point of the grid. -/
theorem idx : ∀ t : Fin cfg0.N, win0_0.index t = ![0, 0] ∧ win0_1.index t = ![0, 0] ∧ win0_2.index t = ![0, 0] ∧ win0_3.index t = ![0, t.val] ∧ win0_4.index t = ![0, t.val] ∧ win0_5.index t = ![0, 10 + t.val] ∧ win0_6.index t = ![0, t.val] ∧ win0_7.index t = ![0, t.val] :=
  (by decide +kernel : ∀ t : Fin grid0.N, _)

/-- The codes are read whole. -/
theorem iblk0 (c : Dev nD) (t : Fin cfg0.N) : (iblk m c 0 t : Vec Ideal S1920x3072 .i8) = m ((c : Thread nD τ).loc main_arg0) := by
  funext y; blk_point [iblk, V, idx t]

/-- The scales of the rows are read whole. -/
theorem iblk1 (c : Dev nD) (t : Fin cfg0.N) : (iblk m c 1 t : Vec Ideal S1920x128 .f32) = m ((c : Thread nD τ).loc main_arg1) := by
  funext y; blk_point [iblk, V, idx t]

/-- The zero points are read whole. -/
theorem iblk2 (c : Dev nD) (t : Fin cfg0.N) : (iblk m c 2 t : Vec Ideal S1920x128 .f32) = m ((c : Thread nD τ).loc main_arg2) := by
  funext y; blk_point [iblk, V, idx t]

/-- The bytes of tile `t`. -/
theorem iblk3 (c : Dev nD) (t : Fin cfg0.N) (k : Fin 3072) (l : Fin 256) (c' : Fin 2560) (h : c'.val = 256 * t.val + l.val) :
    (iblk m c 3 t : Vec Ideal S3072x256 .i8) (ValueIdx.ix2 k l) = (m ((c : Thread nD τ).loc main_arg3) : Vec Ideal S3072x2560 .i8) (ValueIdx.ix2 k c') := by
  blk_point [iblk, V, idx t]
  show t.val * 256 + l.val = c'.val
  omega

/-- The scales of the low half of tile `t`. -/
theorem iblk4 (c : Dev nD) (t : Fin cfg0.N) (k : Fin 96) (l : Fin 256) (c' : Fin 5120) (h : c'.val = 256 * t.val + l.val) :
    (iblk m c 4 t : Vec Ideal S96x256 .f32) (ValueIdx.ix2 k l) = (m ((c : Thread nD τ).loc main_arg4) : Vec Ideal S96x5120 .f32) (ValueIdx.ix2 k c') := by
  blk_point [iblk, V, idx t]
  show t.val * 256 + l.val = c'.val
  omega

/-- The scales of the high half of tile `t`. -/
theorem iblk5 (c : Dev nD) (t : Fin cfg0.N) (k : Fin 96) (l : Fin 256) (c' : Fin 5120) (h : c'.val = 2560 + (256 * t.val + l.val)) :
    (iblk m c 5 t : Vec Ideal S96x256 .f32) (ValueIdx.ix2 k l) = (m ((c : Thread nD τ).loc main_arg4) : Vec Ideal S96x5120 .f32) (ValueIdx.ix2 k c') := by
  blk_point [iblk, V, idx t]
  show (10 + t.val) * 256 + l.val = c'.val
  omega

/-! ## The centred codes -/

/-- The array of centred codes. -/
def centred (c : Dev nD) : Vec Ideal S1920x3072 .bf16 :=
  Int4.codesMinusZero (S := 1920) (K := 3072) (L := 128) (by decide) (m ((c : Thread nD τ).loc main_arg0)) (m ((c : Thread nD τ).loc main_arg2))

/-- The five blocks of centred codes that the first point stores. -/
def codePay (c : Dev nD) (t : Fin cfg0.N) (b : ℕ) (hb : b + 1 ≤ 5) : Vec Ideal S384x3072 .bf16 :=
  Int4.codeRows broadcasts_S384x1_S384x3072 bitsLt_bf16_f32 shapeCasts_S384x3072_S384x3072
    (View.readAt (Elt Ideal) (ms0_0 t).view (Rect.unit (s := S1920x3072) ![384 * b, 0] ![384, 3072] (Int4.rows_inb (B := 5) rfl hb le_rfl)).toLoadRect ((hs0_0 t).unread (iblk m c 0 t)))
    (View.readAt (Elt Ideal) (ms0_2 t).view (Rect.unit (s := S1920x128) ![384 * b, 0] ![384, 1] (Int4.rows_inb (B := 5) rfl hb (by decide))).toLoadRect ((hs0_2 t).unread (iblk m c 2 t)))

/-- They hold the rows of the array of centred codes. -/
theorem codePay_apply (c : Dev nD) (t : Fin cfg0.N) (b : ℕ) (hb : b + 1 ≤ 5) (r : Fin 384) (k : Fin 3072) :
    codePay m c t b hb (ValueIdx.ix2 r k) = centred m c (ValueIdx.ix2 (Int4.blockRow (S := 1920) rfl hb r) k) := by
  unfold codePay
  rw [Int4.codeRows_apply (S := 1920) (B := 5) (L := 128) rfl (by decide)]
  unfold centred
  rw [iblk0, iblk2]

/-- After every point the buffer holds the array of centred codes. -/
theorem scratch (c : Dev nD) (n : ℕ) (hn : n < cfg0.N) : (outsAt0 m c n hn).2.2 = centred m c := by
  induction n with
  | zero =>
    rw [outsAt0_A m c ⟨0, hn⟩ rfl]
    frame_open
    exact Int4.read_rowBlocks (S := 1920) (M := 384) (B := 5) rfl (codePay m c ⟨0, hn⟩) (centred m c) (codePay_apply m c ⟨0, hn⟩) _ _ rfl
  | succ n ih =>
    have h0 : ¬ (n + 1) % 10 = 0 := by have h : n + 1 < 10 := hn; omega
    rw [outsAt0_B m c ⟨n + 1, hn⟩ h0]
    frame_open
    exact ih _

/-! ## One point of the grid -/

/-- The tile of weights of point `t`. -/
def tile (c : Dev nD) (t : Fin cfg0.N) : Vec Ideal S3072x512 .bf16 :=
  Int4.wMat (K := 3072) (N := 512) (G := 96) (n := 256) rfl rfl (iblk m c 3 t) (iblk m c 3 t) (iblk m c 4 t) (iblk m c 5 t)

/-- The load of the scales of the rows of block `b`. -/
def scaleLoad (c : Dev nD) (t : Fin cfg0.N) (b : ℕ) (hb : b + 1 ≤ 5) : Vec Ideal S384x1 .f32 :=
  View.readAt (Elt Ideal) (ms0_1 t).view (Rect.unit (s := S1920x128) ![384 * b, 0] ![384, 1] (Int4.rows_inb (B := 5) rfl hb (by decide))).toLoadRect ((hs0_1 t).unread (iblk m c 1 t))

/-- The product of the centred rows of block `b` with the tile of point `t`, scaled by row. -/
def blockProduct (c : Dev nD) (t : Fin cfg0.N) (b : ℕ) (hb : b + 1 ≤ 5) (a : Vec Ideal S384x3072 .bf16) : Vec Ideal S384x512 .f32 :=
  Int4.scaled dot_S384x3072_S3072x512_S384x512_1_0_0_1_n_n broadcasts_S384x1_S384x512 a (tile m c t) (scaleLoad m c t b hb)

/-- That product at a place, whatever load brought the centred rows. -/
theorem blockProduct_apply (c : Dev nD) (t : Fin cfg0.N) (b : ℕ) (hb : b + 1 ≤ 5) (a : Vec Ideal S384x3072 .bf16)
    (ha : ∀ (r : Fin 384) (k : Fin 3072), a (ValueIdx.ix2 r k) = centred m c (ValueIdx.ix2 (Int4.blockRow (S := 1920) rfl hb r) k)) (r : Fin 384) (cc : Fin 512) :
    blockProduct m c t b hb a (ValueIdx.ix2 r cc)
      = Int4.tileDot (L := 128) (by decide) (centred m c) (tile m c t) (iblk m c 1 t : Vec Ideal S1920x128 .f32) (Int4.blockRow (S := 1920) rfl hb r) cc := by
  have hd : dot_S384x3072_S3072x512_S384x512_1_0_0_1_n_n = DotDims.plain 384 3072 512 := rfl
  exact Int4.scaled_rows (S := 1920) (L := 128) (by decide) _ hd broadcasts_S384x1_S384x512 (384 * b) (centred m c) (iblk m c 1 t) a (tile m c t)
    (scaleLoad m c t b hb) r cc (Int4.blockRow (S := 1920) rfl hb r) rfl (ha r)
    (Int4.readAt_rows (S := 1920) (M := 384) (B := 5) rfl hb (show 1 ≤ 128 by decide) (hs0_1 t) (iblk m c 1 t) (Int4.rows_inb (B := 5) rfl hb (by decide)) r 0)

/-- The place in a result of place `y` of its block `t`. -/
def place (t : Fin cfg0.N) (y : S1920x256.Idx) : S1920x2560.Idx :=
  ValueIdx.ix2 (y 0) ⟨256 * t.val + (y 1).val, by have h : t.val < 10 := t.isLt; have := ValueIdx.idx2_lt1 y; omega⟩

/-- What the kernel stores of block `b` in the low result. -/
def lowPay (c : Dev nD) (t : Fin cfg0.N) (b : ℕ) (hb : b + 1 ≤ 5) (a : Vec Ideal S384x3072 .bf16) : Vec Ideal S384x256 .f32 :=
  extractStridedSlice S384x256 ![0, 0] (blockProduct m c t b hb a) slices_S384x512_o0_0_S384x256

/-- The low result of the kernel. -/
def lowSpec (c : Dev nD) : S1920x2560.Idx → EReal :=
  Int4.qkvSpec Int4.nibLo 0 (by decide) (m ((c : Thread nD τ).loc main_arg0)) (m ((c : Thread nD τ).loc main_arg1)) (m ((c : Thread nD τ).loc main_arg2)) (m ((c : Thread nD τ).loc main_arg3)) (m ((c : Thread nD τ).loc main_arg4))

/-- What the kernel stores of block `b` in the high result. -/
def highPay (c : Dev nD) (t : Fin cfg0.N) (b : ℕ) (hb : b + 1 ≤ 5) (a : Vec Ideal S384x3072 .bf16) : Vec Ideal S384x256 .f32 :=
  extractStridedSlice S384x256 ![0, 256] (blockProduct m c t b hb a) slices_S384x512_o0_256_S384x256

/-- The high result of the kernel. -/
def highSpec (c : Dev nD) : S1920x2560.Idx → EReal :=
  Int4.qkvSpec Int4.nibHi 2560 (by decide) (m ((c : Thread nD τ).loc main_arg0)) (m ((c : Thread nD τ).loc main_arg1)) (m ((c : Thread nD τ).loc main_arg2)) (m ((c : Thread nD τ).loc main_arg3)) (m ((c : Thread nD τ).loc main_arg4))

/-- The stored low rows are rows of the low result. -/
theorem lowPay_apply (c : Dev nD) (t : Fin cfg0.N) (b : ℕ) (hb : b + 1 ≤ 5) (a : Vec Ideal S384x3072 .bf16)
    (ha : ∀ (r : Fin 384) (k : Fin 3072), a (ValueIdx.ix2 r k) = centred m c (ValueIdx.ix2 (Int4.blockRow (S := 1920) rfl hb r) k)) (r : Fin 384) (l : Fin 256) :
    lowPay m c t b hb a (ValueIdx.ix2 r l) = lowSpec m c (place t (ValueIdx.ix2 (Int4.blockRow (S := 1920) rfl hb r) l)) := by
  have ht : t.val < 10 := t.isLt
  have hl := l.isLt
  refine (Int4.slice_cols 0 slices_S384x512_o0_0_S384x256 (blockProduct m c t b hb a) r l ⟨l.val, by omega⟩ (by simp)).trans ?_
  rw [blockProduct_apply m c t b hb a ha]
  unfold tile
  rw [Int4.tileDot_lo (H := 2560) (T := 5120) _ _ _ _ _ _ _ _ (iblk m c 1 t) (m ((c : Thread nD τ).loc main_arg3)) (m ((c : Thread nD τ).loc main_arg4)) 0 (by decide) _ l _ (by rfl)
      ⟨256 * t.val + l.val, by omega⟩ ⟨256 * t.val + l.val, by omega⟩ (by simp) (fun k => iblk3 m c t k l _ rfl) (fun g => iblk4 m c t g l _ rfl), iblk1]
  rfl

/-- The stored high rows are rows of the high result. -/
theorem highPay_apply (c : Dev nD) (t : Fin cfg0.N) (b : ℕ) (hb : b + 1 ≤ 5) (a : Vec Ideal S384x3072 .bf16)
    (ha : ∀ (r : Fin 384) (k : Fin 3072), a (ValueIdx.ix2 r k) = centred m c (ValueIdx.ix2 (Int4.blockRow (S := 1920) rfl hb r) k)) (r : Fin 384) (l : Fin 256) :
    highPay m c t b hb a (ValueIdx.ix2 r l) = highSpec m c (place t (ValueIdx.ix2 (Int4.blockRow (S := 1920) rfl hb r) l)) := by
  have ht : t.val < 10 := t.isLt
  have hl := l.isLt
  refine (Int4.slice_cols 256 slices_S384x512_o0_256_S384x256 (blockProduct m c t b hb a) r l ⟨256 + l.val, by omega⟩ rfl).trans ?_
  rw [blockProduct_apply m c t b hb a ha]
  unfold tile
  rw [Int4.tileDot_hi (H := 2560) (T := 5120) _ _ _ _ _ _ _ _ (iblk m c 1 t) (m ((c : Thread nD τ).loc main_arg3)) (m ((c : Thread nD τ).loc main_arg4)) 2560 (by decide) _ l _ (by rfl)
      ⟨256 * t.val + l.val, by omega⟩ ⟨2560 + (256 * t.val + l.val), by omega⟩ rfl (fun k => iblk3 m c t k l _ rfl) (fun g => iblk5 m c t g l _ rfl), iblk1]
  rfl

/-- The centred rows of block `b`, loaded from the buffer that the first point filled. -/
def laterLoad (A : Vec Ideal S1920x3072 .bf16) (b : ℕ) (hb : b + 1 ≤ 5) : Vec Ideal S384x3072 .bf16 :=
  View.readAt (Elt Ideal) scM0_0.view (Rect.unit (s := S1920x3072) ![384 * b, 0] ![384, 3072] (Int4.rows_inb (B := 5) rfl hb le_rfl)).toLoadRect
    ((Memref.isWhole_whole _ : scM0_0.IsWhole).unread A)

/-- They are rows of what the buffer holds. -/
theorem laterLoad_apply (A : Vec Ideal S1920x3072 .bf16) (b : ℕ) (hb : b + 1 ≤ 5) (r : Fin 384) (k : Fin 3072) :
    laterLoad A b hb (ValueIdx.ix2 r k) = A (ValueIdx.ix2 (Int4.blockRow (S := 1920) rfl hb r) k) :=
  Int4.readAt_rows (S := 1920) (M := 384) (B := 5) rfl hb le_rfl _ A _ r k

/-- The centred rows of block `b`, loaded by the first point, which has just stored them. -/
def firstLoad (c : Dev nD) (t : Fin cfg0.N) (b : ℕ) (hb : b + 1 ≤ 5) : Vec Ideal S384x3072 .bf16 :=
  scM0_0.view.readCov (Int4.rowBlocks (S := 1920) (M := 384) (B := 5) rfl (codePay m c t) 5 le_rfl)
    (Rect.unit (s := S1920x3072) ![384 * b, 0] ![384, 3072] (Int4.rows_inb (B := 5) rfl hb le_rfl)).toLoadRect

/-- They are rows of the array of centred codes. -/
theorem firstLoad_apply (c : Dev nD) (t : Fin cfg0.N) (b : ℕ) (hb : b + 1 ≤ 5) (r : Fin 384) (k : Fin 3072) :
    firstLoad m c t b hb (ValueIdx.ix2 r k) = centred m c (ValueIdx.ix2 (Int4.blockRow (S := 1920) rfl hb r) k) :=
  Int4.readCov_rows (S := 1920) (M := 384) (B := 5) rfl (codePay m c t) (centred m c) (codePay_apply m c t) _ hb _ r k

end Cert.QkvIdeal.Hand
-- ==== Proof.Qkv.lean ====
/-
  The query, key and value product, over the extended reals: the two arrays the kernel leaves are `qkvSpec` of the low and of the high nibbles, at every row
  and column. Every point leaves its block of each (`pointLow`, `pointHigh`); the blocks written back tile each result (`low_eq`,
  `high_eq`).
-/
module

public import proofs.«01_k».proof.Proof.QkvStep

@[expose] public section

set_option maxRecDepth 16384
set_option maxHeartbeats 1000000

noncomputable section

namespace Cert.QkvIdeal.Hand

open Cert.QkvIdeal Cert.QkvIdeal.Gen Idealize.ShloMosaic Idealize.ShloMosaic.TcCoe Idealize.SL.Sem
open Idealize.ShloMosaic.Pipeline (Dat)

variable (m : (ℓ : Loc nD τ sig) → Buf (Elt Ideal) ℓ)

/-- EVERY POINT leaves its block of the low result. -/
theorem pointLow (c : Dev nD) (t : Fin cfg0.N) : (outsAt0 m c t.val t.isLt).1 = fun y => lowSpec m c (place t y) := by
  by_cases h0 : t.val % 10 = 0
  · rw [outsAt0_A m c t h0]
    frame_open
    rw [Int4.readCov_tile (K := 3072) (N := 512) (G := 96) (n := 256) rfl rfl (iblk m c 3 t) (iblk m c 4 t) (iblk m c 5 t) bitcasts_S32x256_w8_S8x256_w32 bitcasts_S8x256_w32_S32x256_w8 shapeCasts_S1x256_S1x256 broadcasts_S1x256_S32x256 shapeCasts_S32x256_S32x256 bitsLt_bf16_f32 (ms0_3 t) (hs0_3 t) (ms0_4 t) (hs0_4 t) (ms0_5 t) (hs0_5 t)]
    · exact Int4.read_rowBlocks (e := .f32) (S := 1920) (M := 384) (B := 5) rfl (fun b hb => lowPay m c t b hb (firstLoad m c t b hb)) (fun y => lowSpec m c (place t y))
        (fun b hb r l => lowPay_apply m c t b hb _ (firstLoad_apply m c t b hb) r l) _ _ rfl
    · rfl
  · rw [outsAt0_B m c t h0]
    frame_open
    rw [Int4.readCov_tile (K := 3072) (N := 512) (G := 96) (n := 256) rfl rfl (iblk m c 3 t) (iblk m c 4 t) (iblk m c 5 t) bitcasts_S32x256_w8_S8x256_w32 bitcasts_S8x256_w32_S32x256_w8 shapeCasts_S1x256_S1x256 broadcasts_S1x256_S32x256 shapeCasts_S32x256_S32x256 bitsLt_bf16_f32 (ms0_3 t) (hs0_3 t) (ms0_4 t) (hs0_4 t) (ms0_5 t) (hs0_5 t)]
    · exact Int4.read_rowBlocks (e := .f32) (S := 1920) (M := 384) (B := 5) rfl
        (fun b hb => lowPay m c t b hb (laterLoad (outsAt0 m c (t.val - 1) (lt_of_le_of_lt (Nat.sub_le _ _) t.isLt)).2.2 b hb)) (fun y => lowSpec m c (place t y))
        (fun b hb r l => lowPay_apply m c t b hb _ (fun r k => (laterLoad_apply _ b hb r k).trans (congrFun (scratch m c _ _) _)) r l) _ _ rfl
    · rfl

/-- EVERY POINT leaves its block of the high result. -/
theorem pointHigh (c : Dev nD) (t : Fin cfg0.N) : (outsAt0 m c t.val t.isLt).2.1 = fun y => highSpec m c (place t y) := by
  by_cases h0 : t.val % 10 = 0
  · rw [outsAt0_A m c t h0]
    frame_open
    rw [Int4.readCov_tile (K := 3072) (N := 512) (G := 96) (n := 256) rfl rfl (iblk m c 3 t) (iblk m c 4 t) (iblk m c 5 t) bitcasts_S32x256_w8_S8x256_w32 bitcasts_S8x256_w32_S32x256_w8 shapeCasts_S1x256_S1x256 broadcasts_S1x256_S32x256 shapeCasts_S32x256_S32x256 bitsLt_bf16_f32 (ms0_3 t) (hs0_3 t) (ms0_4 t) (hs0_4 t) (ms0_5 t) (hs0_5 t)]
    · exact Int4.read_rowBlocks (e := .f32) (S := 1920) (M := 384) (B := 5) rfl (fun b hb => highPay m c t b hb (firstLoad m c t b hb)) (fun y => highSpec m c (place t y))
        (fun b hb r l => highPay_apply m c t b hb _ (firstLoad_apply m c t b hb) r l) _ _ rfl
    · rfl
  · rw [outsAt0_B m c t h0]
    frame_open
    rw [Int4.readCov_tile (K := 3072) (N := 512) (G := 96) (n := 256) rfl rfl (iblk m c 3 t) (iblk m c 4 t) (iblk m c 5 t) bitcasts_S32x256_w8_S8x256_w32 bitcasts_S8x256_w32_S32x256_w8 shapeCasts_S1x256_S1x256 broadcasts_S1x256_S32x256 shapeCasts_S32x256_S32x256 bitsLt_bf16_f32 (ms0_3 t) (hs0_3 t) (ms0_4 t) (hs0_4 t) (ms0_5 t) (hs0_5 t)]
    · exact Int4.read_rowBlocks (e := .f32) (S := 1920) (M := 384) (B := 5) rfl
        (fun b hb => highPay m c t b hb (laterLoad (outsAt0 m c (t.val - 1) (lt_of_le_of_lt (Nat.sub_le _ _) t.isLt)).2.2 b hb)) (fun y => highSpec m c (place t y))
        (fun b hb r l => highPay_apply m c t b hb _ (fun r k => (laterLoad_apply _ b hb r k).trans (congrFun (scratch m c _ _) _)) r l) _ _ rfl
    · rfl

/-- THE KERNEL: the low result after the run. -/
theorem low_eq (c : Dev nD) : (dats m 0 c).arrAt 6 cfg0.N = (lowSpec m c : Vec Ideal S1920x2560 .f32) := by
  refine (dats m 0 c).arrAt_eq_of_covers 6 _ (by decide +kernel) fun t hf y => ?_
  blk_simp
  rw [after0_6]
  refine (congrFun (pointLow m c t) _).trans ?_
  refine congrArg (lowSpec m c) ?_
  have i := (idx t).2.2.2.2.2.2.1
  have e0 : (((win0_6.blk t).view.emb y (0 : Fin 2) : Fin _) : ℕ) = (y 0).val := by blk_simp [i]
  have e1 : (((win0_6.blk t).view.emb y (1 : Fin 2) : Fin _) : ℕ) = t.val * 256 + (y 1).val := by blk_simp [i]
  funext a
  match a with
  | ⟨0, _⟩ => exact Fin.ext e0.symm
  | ⟨1, _⟩ => exact Fin.ext (Eq.trans (by show 256 * t.val + (y 1).val = t.val * 256 + (y 1).val; omega) e1.symm)

/-- THE KERNEL: the high result after the run. -/
theorem high_eq (c : Dev nD) : (dats m 0 c).arrAt 7 cfg0.N = (highSpec m c : Vec Ideal S1920x2560 .f32) := by
  refine (dats m 0 c).arrAt_eq_of_covers 7 _ (by decide +kernel) fun t hf y => ?_
  blk_simp
  rw [after0_7]
  refine (congrFun (pointHigh m c t) _).trans ?_
  refine congrArg (highSpec m c) ?_
  have i := (idx t).2.2.2.2.2.2.2
  have e0 : (((win0_7.blk t).view.emb y (0 : Fin 2) : Fin _) : ℕ) = (y 0).val := by blk_simp [i]
  have e1 : (((win0_7.blk t).view.emb y (1 : Fin 2) : Fin _) : ℕ) = t.val * 256 + (y 1).val := by blk_simp [i]
  funext a
  match a with
  | ⟨0, _⟩ => exact Fin.ext e0.symm
  | ⟨1, _⟩ => exact Fin.ext (Eq.trans (by show 256 * t.val + (y 1).val = t.val * 256 + (y 1).val; omega) e1.symm)

end Cert.QkvIdeal.Hand
-- ==== Proof.OProjRef.lean ====
/-
  The reference's output projection with its residual, over the extended reals: its two results are `oProjSpec` of the low and of the high nibbles, at every row and
  column.
-/
module

public import proofs.«01_k».proof.Proof.Gen.OProjRefIdeal.Run
public import proofs.«01_k».proof.Proof.Linear

@[expose] public section

set_option maxRecDepth 16384
set_option maxHeartbeats 1000000

noncomputable section

namespace Int4

open Idealize.ShloMosaic

/-- A result of the output projection with its residual at a place: the residual's half plus the product with one nibble of every byte. -/
def oProjSpec (nib : BitVec 8 → ℤ) (off : ℕ) (hoff : off + 1536 ≤ 3072) (X : (⟨2, ![1920, 3072]⟩ : Shape).Idx → BitVec 8)
    (S Z : (⟨2, ![1920, 128]⟩ : Shape).Idx → EReal) (W : (⟨2, ![3072, 1536]⟩ : Shape).Idx → BitVec 8)
    (Sc : (⟨2, ![96, 3072]⟩ : Shape).Idx → EReal) (R : (⟨2, ![1920, 3072]⟩ : Shape).Idx → EReal) (y : (⟨2, ![1920, 1536]⟩ : Shape).Idx) : EReal :=
  R (ValueIdx.ix2 (y 0) ⟨off + (y 1).val, by have := ValueIdx.idx2_lt1 y; omega⟩) + dotNib (K := 3072) (G := 96) (L := 128) rfl (by decide) nib (codesMinusZero (L := 128) (by decide) X Z) W Sc off hoff S (y 0) (y 1)

end Int4

namespace Cert.OProjRefIdeal.Hand

open Cert.OProjRefIdeal Cert.OProjRefIdeal.Gen Idealize.ShloMosaic Idealize.ShloMosaic.TcCoe Idealize.SL.Sem

variable (X : IVec S1920x3072 8) (S Z : FVec Ideal S1920x128 .f32) (W : IVec S3072x1536 8) (Sc : FVec Ideal S96x3072 .f32) (R : FVec Ideal S1920x3072 .bf16)

/-- The low result as the reference writes it. -/
def lowPlain : FVec Ideal S1920x1536 .f32 :=
  addf (extractStridedSlice S1920x1536 ![0, 0] (extf .f32 R bitsLt_bf16_f32) slices_S1920x3072_S1920x1536_0_0) (Int4.plainProduct (S := 1920) (K := 3072) (H := 1536) (G := 96) (T := 3072) (L := 128) dot_S1920x3072_S3072x1536_S1920x1536_1_0_0_1_n_n 0
    shapeCasts_S3072x1536_S96x32x1536 bcast_S96x1x1536_S96x32x1536_0_1_2 bcast_S96x1536_S96x1x1536_0_2 slices_S96x3072_S96x1536_0_0 shapeCasts_S96x32x1536_S3072x1536 bitsLt_bf16_f32
    bcast_S1920x1_S1920x1536_0_1 slices_S1920x128_S1920x1_0_0
    (Int4.plainCodes natLt_8_32 slices_S1920x128_S1920x1_0_0 bcast_S1920x1_S1920x3072_0_1 bitsLt_bf16_f32 X Z) (Int4.plainLo bcast_S_S3072x1536 natLt_8_32 W) Sc S)

/-- The low result, at every place. -/
theorem lowPlain_eq : lowPlain X S Z W Sc R = (Int4.oProjSpec Int4.nibLo 0 (by decide) X S Z W Sc R : Vec Ideal S1920x1536 .f32) := by
  funext y
  obtain ⟨r, l, rfl⟩ : ∃ (r : Fin 1920) (l : Fin 1536), y = ValueIdx.ix2 r l := ⟨y 0, y 1, ValueIdx.eq_ix2 y⟩
  have hd : dot_S1920x3072_S3072x1536_S1920x1536_1_0_0_1_n_n = DotDims.plain 1920 3072 1536 := rfl
  have hl := l.isLt
  refine (congrArg₂ (fun u v : EReal => u + v)
    (Int4.slice_cols 0 slices_S1920x3072_S1920x1536_0_0 (extf .f32 R bitsLt_bf16_f32) r l ⟨0 + l.val, by omega⟩ rfl)
    (Int4.plainProduct_apply (S := 1920) (K := 3072) (H := 1536) (G := 96) (T := 3072) (L := 128) rfl (by decide) _ hd 0 (by decide) _ _ _ _ _ _ _ _ _ _ _ _
      Int4.nibLo W (Int4.plainLo_toInt _ _ _) r l)).trans ?_
  rw [Int4.plainCodes_eq (L := 128) (by decide)]
  rfl

/-- The high result as the reference writes it. -/
def highPlain : FVec Ideal S1920x1536 .f32 :=
  addf (extractStridedSlice S1920x1536 ![0, 1536] (extf .f32 R bitsLt_bf16_f32) slices_S1920x3072_S1920x1536_0_1536) (Int4.plainProduct (S := 1920) (K := 3072) (H := 1536) (G := 96) (T := 3072) (L := 128) dot_S1920x3072_S3072x1536_S1920x1536_1_0_0_1_n_n 1536
    shapeCasts_S3072x1536_S96x32x1536 bcast_S96x1x1536_S96x32x1536_0_1_2 bcast_S96x1536_S96x1x1536_0_2 slices_S96x3072_S96x1536_0_1536 shapeCasts_S96x32x1536_S3072x1536 bitsLt_bf16_f32
    bcast_S1920x1_S1920x1536_0_1 slices_S1920x128_S1920x1_0_0
    (Int4.plainCodes natLt_8_32 slices_S1920x128_S1920x1_0_0 bcast_S1920x1_S1920x3072_0_1 bitsLt_bf16_f32 X Z) (Int4.plainHi bcast_S_S3072x1536 natLt_8_32 W) Sc S)

/-- The high result, at every place. -/
theorem highPlain_eq : highPlain X S Z W Sc R = (Int4.oProjSpec Int4.nibHi 1536 (by decide) X S Z W Sc R : Vec Ideal S1920x1536 .f32) := by
  funext y
  obtain ⟨r, l, rfl⟩ : ∃ (r : Fin 1920) (l : Fin 1536), y = ValueIdx.ix2 r l := ⟨y 0, y 1, ValueIdx.eq_ix2 y⟩
  have hd : dot_S1920x3072_S3072x1536_S1920x1536_1_0_0_1_n_n = DotDims.plain 1920 3072 1536 := rfl
  have hl := l.isLt
  refine (congrArg₂ (fun u v : EReal => u + v)
    (Int4.slice_cols 1536 slices_S1920x3072_S1920x1536_0_1536 (extf .f32 R bitsLt_bf16_f32) r l ⟨1536 + l.val, by omega⟩ rfl)
    (Int4.plainProduct_apply (S := 1920) (K := 3072) (H := 1536) (G := 96) (T := 3072) (L := 128) rfl (by decide) _ hd 1536 (by decide) _ _ _ _ _ _ _ _ _ _ _ _
      Int4.nibHi W (Int4.plainHi_toInt _ _ _) r l)).trans ?_
  rw [Int4.plainCodes_eq (L := 128) (by decide)]
  rfl

/-- THE REFERENCE: its run ends with the two results at `oProjSpec`, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v47) = (Int4.oProjSpec Int4.nibLo 0 (by decide) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) : Vec Ideal S1920x1536 .f32)
      ∧ r.2.mem ((c.tc : Thread nD τ).loc main_v49) = (Int4.oProjSpec Int4.nibHi 1536 (by decide) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) : Vec Ideal S1920x1536 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun _ h c => ⟨(h c).1.trans (Eq.trans ?_ (lowPlain_eq _ _ _ _ _ _)), (h c).2.1.trans (Eq.trans ?_ (highPlain_eq _ _ _ _ _ _)), (h c).2.2⟩)
    (Cert.OProjRefIdeal.Value.run (F := Ideal) m ρ)
  · unfold lowPlain Int4.plainProduct Int4.plainCodes Int4.plainLo
    rfl
  · unfold highPlain Int4.plainProduct Int4.plainCodes Int4.plainHi
    rfl

end Cert.OProjRefIdeal.Hand
-- ==== Proof.OProjStep.lean ====
/-
  The output projection with its residual, over the extended reals: what one point of the kernel's grid reads and stores.

  The grid walks the tiles of 256 columns. The first point stores the centred codes in a buffer that later points read again
  (`scratch`). Every point unpacks its tile of weights, multiplies five blocks of 384 rows by it and stores the two halves in the two
  results.
-/
module

public import proofs.«01_k».proof.Proof.Gen.OProjIdeal.Value
public import proofs.«01_k».proof.Proof.OProjRef

@[expose] public section

set_option maxRecDepth 16384
set_option maxHeartbeats 1000000

noncomputable section

namespace Cert.OProjIdeal.Hand

open Cert.OProjIdeal Cert.OProjIdeal.Gen Idealize.ShloMosaic Idealize.ShloMosaic.TcCoe Idealize.SL.Sem
open Idealize.ShloMosaic.Pipeline (Dat)

variable (m : (ℓ : Loc nD τ sig) → Buf (Elt Ideal) ℓ)

/-! ## What the kernel reads -/

/-- Where each window's block stands at each point of the grid. -/
theorem idx : ∀ t : Fin cfg0.N, win0_0.index t = ![0, 0] ∧ win0_1.index t = ![0, 0] ∧ win0_2.index t = ![0, 0] ∧ win0_3.index t = ![0, t.val] ∧ win0_4.index t = ![0, t.val] ∧ win0_5.index t = ![0, 6 + t.val] ∧ win0_6.index t = ![0, t.val] ∧ win0_7.index t = ![0, 6 + t.val] ∧ win0_8.index t = ![0, t.val] ∧ win0_9.index t = ![0, t.val] :=
  (by decide +kernel : ∀ t : Fin grid0.N, _)

/-- The codes are read whole. -/
theorem iblk0 (c : Dev nD) (t : Fin cfg0.N) : (iblk m c 0 t : Vec Ideal S1920x3072 .i8) = m ((c : Thread nD τ).loc main_arg0) := by
  funext y; blk_point [iblk, V, idx t]

/-- The scales of the rows are read whole. -/
theorem iblk1 (c : Dev nD) (t : Fin cfg0.N) : (iblk m c 1 t : Vec Ideal S1920x128 .f32) = m ((c : Thread nD τ).loc main_arg1) := by
  funext y; blk_point [iblk, V, idx t]

/-- The zero points are read whole. -/
theorem iblk2 (c : Dev nD) (t : Fin cfg0.N) : (iblk m c 2 t : Vec Ideal S1920x128 .f32) = m ((c : Thread nD τ).loc main_arg2) := by
  funext y; blk_point [iblk, V, idx t]

/-- The bytes of tile `t`. -/
theorem iblk3 (c : Dev nD) (t : Fin cfg0.N) (k : Fin 3072) (l : Fin 256) (c' : Fin 1536) (h : c'.val = 256 * t.val + l.val) :
    (iblk m c 3 t : Vec Ideal S3072x256 .i8) (ValueIdx.ix2 k l) = (m ((c : Thread nD τ).loc main_arg3) : Vec Ideal S3072x1536 .i8) (ValueIdx.ix2 k c') := by
  blk_point [iblk, V, idx t]
  show t.val * 256 + l.val = c'.val
  omega

/-- The scales of the low half of tile `t`. -/
theorem iblk4 (c : Dev nD) (t : Fin cfg0.N) (k : Fin 96) (l : Fin 256) (c' : Fin 3072) (h : c'.val = 256 * t.val + l.val) :
    (iblk m c 4 t : Vec Ideal S96x256 .f32) (ValueIdx.ix2 k l) = (m ((c : Thread nD τ).loc main_arg4) : Vec Ideal S96x3072 .f32) (ValueIdx.ix2 k c') := by
  blk_point [iblk, V, idx t]
  show t.val * 256 + l.val = c'.val
  omega

/-- The scales of the high half of tile `t`. -/
theorem iblk5 (c : Dev nD) (t : Fin cfg0.N) (k : Fin 96) (l : Fin 256) (c' : Fin 3072) (h : c'.val = 1536 + (256 * t.val + l.val)) :
    (iblk m c 5 t : Vec Ideal S96x256 .f32) (ValueIdx.ix2 k l) = (m ((c : Thread nD τ).loc main_arg4) : Vec Ideal S96x3072 .f32) (ValueIdx.ix2 k c') := by
  blk_point [iblk, V, idx t]
  show (6 + t.val) * 256 + l.val = c'.val
  omega

/-- The residual of the low half of tile `t`. -/
theorem iblk6 (c : Dev nD) (t : Fin cfg0.N) (k : Fin 1920) (l : Fin 256) (c' : Fin 3072) (h : c'.val = 256 * t.val + l.val) :
    (iblk m c 6 t : Vec Ideal S1920x256 .bf16) (ValueIdx.ix2 k l) = (m ((c : Thread nD τ).loc main_arg5) : Vec Ideal S1920x3072 .bf16) (ValueIdx.ix2 k c') := by
  blk_point [iblk, V, idx t]
  show t.val * 256 + l.val = c'.val
  omega

/-- The residual of the high half of tile `t`. -/
theorem iblk7 (c : Dev nD) (t : Fin cfg0.N) (k : Fin 1920) (l : Fin 256) (c' : Fin 3072) (h : c'.val = 1536 + (256 * t.val + l.val)) :
    (iblk m c 7 t : Vec Ideal S1920x256 .bf16) (ValueIdx.ix2 k l) = (m ((c : Thread nD τ).loc main_arg5) : Vec Ideal S1920x3072 .bf16) (ValueIdx.ix2 k c') := by
  blk_point [iblk, V, idx t]
  show (6 + t.val) * 256 + l.val = c'.val
  omega

/-! ## The centred codes -/

/-- The array of centred codes. -/
def centred (c : Dev nD) : Vec Ideal S1920x3072 .bf16 :=
  Int4.codesMinusZero (S := 1920) (K := 3072) (L := 128) (by decide) (m ((c : Thread nD τ).loc main_arg0)) (m ((c : Thread nD τ).loc main_arg2))

/-- The five blocks of centred codes that the first point stores. -/
def codePay (c : Dev nD) (t : Fin cfg0.N) (b : ℕ) (hb : b + 1 ≤ 5) : Vec Ideal S384x3072 .bf16 :=
  Int4.codeRows broadcasts_S384x1_S384x3072 bitsLt_bf16_f32 shapeCasts_S384x3072_S384x3072
    (View.readAt (Elt Ideal) (ms0_0 t).view (Rect.unit (s := S1920x3072) ![384 * b, 0] ![384, 3072] (Int4.rows_inb (B := 5) rfl hb le_rfl)).toLoadRect ((hs0_0 t).unread (iblk m c 0 t)))
    (View.readAt (Elt Ideal) (ms0_2 t).view (Rect.unit (s := S1920x128) ![384 * b, 0] ![384, 1] (Int4.rows_inb (B := 5) rfl hb (by decide))).toLoadRect ((hs0_2 t).unread (iblk m c 2 t)))

/-- They hold the rows of the array of centred codes. -/
theorem codePay_apply (c : Dev nD) (t : Fin cfg0.N) (b : ℕ) (hb : b + 1 ≤ 5) (r : Fin 384) (k : Fin 3072) :
    codePay m c t b hb (ValueIdx.ix2 r k) = centred m c (ValueIdx.ix2 (Int4.blockRow (S := 1920) rfl hb r) k) := by
  unfold codePay
  rw [Int4.codeRows_apply (S := 1920) (B := 5) (L := 128) rfl (by decide)]
  unfold centred
  rw [iblk0, iblk2]

/-- After every point the buffer holds the array of centred codes. -/
theorem scratch (c : Dev nD) (n : ℕ) (hn : n < cfg0.N) : (outsAt0 m c n hn).2.2 = centred m c := by
  induction n with
  | zero =>
    rw [outsAt0_A m c ⟨0, hn⟩ rfl]
    frame_open
    exact Int4.read_rowBlocks (S := 1920) (M := 384) (B := 5) rfl (codePay m c ⟨0, hn⟩) (centred m c) (codePay_apply m c ⟨0, hn⟩) _ _ rfl
  | succ n ih =>
    have h0 : ¬ (n + 1) % 6 = 0 := by have h : n + 1 < 6 := hn; omega
    rw [outsAt0_B m c ⟨n + 1, hn⟩ h0]
    frame_open
    exact ih _

/-! ## One point of the grid -/

/-- The tile of weights of point `t`. -/
def tile (c : Dev nD) (t : Fin cfg0.N) : Vec Ideal S3072x512 .bf16 :=
  Int4.wMat (K := 3072) (N := 512) (G := 96) (n := 256) rfl rfl (iblk m c 3 t) (iblk m c 3 t) (iblk m c 4 t) (iblk m c 5 t)

/-- The load of the scales of the rows of block `b`. -/
def scaleLoad (c : Dev nD) (t : Fin cfg0.N) (b : ℕ) (hb : b + 1 ≤ 5) : Vec Ideal S384x1 .f32 :=
  View.readAt (Elt Ideal) (ms0_1 t).view (Rect.unit (s := S1920x128) ![384 * b, 0] ![384, 1] (Int4.rows_inb (B := 5) rfl hb (by decide))).toLoadRect ((hs0_1 t).unread (iblk m c 1 t))

/-- The product of the centred rows of block `b` with the tile of point `t`, scaled by row. -/
def blockProduct (c : Dev nD) (t : Fin cfg0.N) (b : ℕ) (hb : b + 1 ≤ 5) (a : Vec Ideal S384x3072 .bf16) : Vec Ideal S384x512 .f32 :=
  Int4.scaled dot_S384x3072_S3072x512_S384x512_1_0_0_1_n_n broadcasts_S384x1_S384x512 a (tile m c t) (scaleLoad m c t b hb)

/-- That product at a place, whatever load brought the centred rows. -/
theorem blockProduct_apply (c : Dev nD) (t : Fin cfg0.N) (b : ℕ) (hb : b + 1 ≤ 5) (a : Vec Ideal S384x3072 .bf16)
    (ha : ∀ (r : Fin 384) (k : Fin 3072), a (ValueIdx.ix2 r k) = centred m c (ValueIdx.ix2 (Int4.blockRow (S := 1920) rfl hb r) k)) (r : Fin 384) (cc : Fin 512) :
    blockProduct m c t b hb a (ValueIdx.ix2 r cc)
      = Int4.tileDot (L := 128) (by decide) (centred m c) (tile m c t) (iblk m c 1 t : Vec Ideal S1920x128 .f32) (Int4.blockRow (S := 1920) rfl hb r) cc := by
  have hd : dot_S384x3072_S3072x512_S384x512_1_0_0_1_n_n = DotDims.plain 384 3072 512 := rfl
  exact Int4.scaled_rows (S := 1920) (L := 128) (by decide) _ hd broadcasts_S384x1_S384x512 (384 * b) (centred m c) (iblk m c 1 t) a (tile m c t)
    (scaleLoad m c t b hb) r cc (Int4.blockRow (S := 1920) rfl hb r) rfl (ha r)
    (Int4.readAt_rows (S := 1920) (M := 384) (B := 5) rfl hb (show 1 ≤ 128 by decide) (hs0_1 t) (iblk m c 1 t) (Int4.rows_inb (B := 5) rfl hb (by decide)) r 0)

/-- The place in a result of place `y` of its block `t`. -/
def place (t : Fin cfg0.N) (y : S1920x256.Idx) : S1920x1536.Idx :=
  ValueIdx.ix2 (y 0) ⟨256 * t.val + (y 1).val, by have h : t.val < 6 := t.isLt; have := ValueIdx.idx2_lt1 y; omega⟩

/-- What the kernel stores of block `b` in the low result. -/
def lowPay (c : Dev nD) (t : Fin cfg0.N) (b : ℕ) (hb : b + 1 ≤ 5) (a : Vec Ideal S384x3072 .bf16) : Vec Ideal S384x256 .f32 :=
  addf (F := Ideal) (extf .f32 (View.readAt (Elt Ideal) (ms0_6 t).view (Rect.unit (s := S1920x256) ![384 * b, 0] ![384, 256] (Int4.rows_inb (B := 5) rfl hb le_rfl)).toLoadRect ((hs0_6 t).unread (iblk m c 6 t))) bitsLt_bf16_f32)
    (extractStridedSlice S384x256 ![0, 0] (blockProduct m c t b hb a) slices_S384x512_o0_0_S384x256)

/-- The low result of the kernel. -/
def lowSpec (c : Dev nD) : S1920x1536.Idx → EReal :=
  Int4.oProjSpec Int4.nibLo 0 (by decide) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- What the kernel stores of block `b` in the high result. -/
def highPay (c : Dev nD) (t : Fin cfg0.N) (b : ℕ) (hb : b + 1 ≤ 5) (a : Vec Ideal S384x3072 .bf16) : Vec Ideal S384x256 .f32 :=
  addf (F := Ideal) (extf .f32 (View.readAt (Elt Ideal) (ms0_7 t).view (Rect.unit (s := S1920x256) ![384 * b, 0] ![384, 256] (Int4.rows_inb (B := 5) rfl hb le_rfl)).toLoadRect ((hs0_7 t).unread (iblk m c 7 t))) bitsLt_bf16_f32)
    (extractStridedSlice S384x256 ![0, 256] (blockProduct m c t b hb a) slices_S384x512_o0_256_S384x256)

/-- The high result of the kernel. -/
def highSpec (c : Dev nD) : S1920x1536.Idx → EReal :=
  Int4.oProjSpec Int4.nibHi 1536 (by decide) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- The stored low rows are rows of the low result. -/
theorem lowPay_apply (c : Dev nD) (t : Fin cfg0.N) (b : ℕ) (hb : b + 1 ≤ 5) (a : Vec Ideal S384x3072 .bf16)
    (ha : ∀ (r : Fin 384) (k : Fin 3072), a (ValueIdx.ix2 r k) = centred m c (ValueIdx.ix2 (Int4.blockRow (S := 1920) rfl hb r) k)) (r : Fin 384) (l : Fin 256) :
    lowPay m c t b hb a (ValueIdx.ix2 r l) = lowSpec m c (place t (ValueIdx.ix2 (Int4.blockRow (S := 1920) rfl hb r) l)) := by
  have ht : t.val < 6 := t.isLt
  have hl := l.isLt
  refine (congrArg₂ (fun u v : EReal => u + v)
    (Int4.readAt_rows (S := 1920) (M := 384) (B := 5) rfl hb (show 256 ≤ 256 by decide) (hs0_6 t) (iblk m c 6 t) (Int4.rows_inb (B := 5) rfl hb le_rfl) r l)
    (Int4.slice_cols 0 slices_S384x512_o0_0_S384x256 (blockProduct m c t b hb a) r l ⟨l.val, by omega⟩ (by simp))).trans ?_
  rw [blockProduct_apply m c t b hb a ha]
  unfold tile
  rw [Int4.tileDot_lo (H := 1536) (T := 3072) _ _ _ _ _ _ _ _ (iblk m c 1 t) (m ((c : Thread nD τ).loc main_arg3)) (m ((c : Thread nD τ).loc main_arg4)) 0 (by decide) _ l _ (by rfl)
      ⟨256 * t.val + l.val, by omega⟩ ⟨256 * t.val + l.val, by omega⟩ (by simp) (fun k => iblk3 m c t k l _ rfl) (fun g => iblk4 m c t g l _ rfl), iblk1]
  refine congrArg (fun z : EReal => z + _) ?_
  exact iblk6 m c t _ _ ⟨0 + (256 * t.val + l.val), by omega⟩ (by simp)

/-- The stored high rows are rows of the high result. -/
theorem highPay_apply (c : Dev nD) (t : Fin cfg0.N) (b : ℕ) (hb : b + 1 ≤ 5) (a : Vec Ideal S384x3072 .bf16)
    (ha : ∀ (r : Fin 384) (k : Fin 3072), a (ValueIdx.ix2 r k) = centred m c (ValueIdx.ix2 (Int4.blockRow (S := 1920) rfl hb r) k)) (r : Fin 384) (l : Fin 256) :
    highPay m c t b hb a (ValueIdx.ix2 r l) = highSpec m c (place t (ValueIdx.ix2 (Int4.blockRow (S := 1920) rfl hb r) l)) := by
  have ht : t.val < 6 := t.isLt
  have hl := l.isLt
  refine (congrArg₂ (fun u v : EReal => u + v)
    (Int4.readAt_rows (S := 1920) (M := 384) (B := 5) rfl hb (show 256 ≤ 256 by decide) (hs0_7 t) (iblk m c 7 t) (Int4.rows_inb (B := 5) rfl hb le_rfl) r l)
    (Int4.slice_cols 256 slices_S384x512_o0_256_S384x256 (blockProduct m c t b hb a) r l ⟨256 + l.val, by omega⟩ rfl)).trans ?_
  rw [blockProduct_apply m c t b hb a ha]
  unfold tile
  rw [Int4.tileDot_hi (H := 1536) (T := 3072) _ _ _ _ _ _ _ _ (iblk m c 1 t) (m ((c : Thread nD τ).loc main_arg3)) (m ((c : Thread nD τ).loc main_arg4)) 1536 (by decide) _ l _ (by rfl)
      ⟨256 * t.val + l.val, by omega⟩ ⟨1536 + (256 * t.val + l.val), by omega⟩ rfl (fun k => iblk3 m c t k l _ rfl) (fun g => iblk5 m c t g l _ rfl), iblk1]
  refine congrArg (fun z : EReal => z + _) ?_
  exact iblk7 m c t _ _ ⟨1536 + (256 * t.val + l.val), by omega⟩ rfl

/-- The centred rows of block `b`, loaded from the buffer that the first point filled. -/
def laterLoad (A : Vec Ideal S1920x3072 .bf16) (b : ℕ) (hb : b + 1 ≤ 5) : Vec Ideal S384x3072 .bf16 :=
  View.readAt (Elt Ideal) scM0_0.view (Rect.unit (s := S1920x3072) ![384 * b, 0] ![384, 3072] (Int4.rows_inb (B := 5) rfl hb le_rfl)).toLoadRect
    ((Memref.isWhole_whole _ : scM0_0.IsWhole).unread A)

/-- They are rows of what the buffer holds. -/
theorem laterLoad_apply (A : Vec Ideal S1920x3072 .bf16) (b : ℕ) (hb : b + 1 ≤ 5) (r : Fin 384) (k : Fin 3072) :
    laterLoad A b hb (ValueIdx.ix2 r k) = A (ValueIdx.ix2 (Int4.blockRow (S := 1920) rfl hb r) k) :=
  Int4.readAt_rows (S := 1920) (M := 384) (B := 5) rfl hb le_rfl _ A _ r k

/-- The centred rows of block `b`, loaded by the first point, which has just stored them. -/
def firstLoad (c : Dev nD) (t : Fin cfg0.N) (b : ℕ) (hb : b + 1 ≤ 5) : Vec Ideal S384x3072 .bf16 :=
  scM0_0.view.readCov (Int4.rowBlocks (S := 1920) (M := 384) (B := 5) rfl (codePay m c t) 5 le_rfl)
    (Rect.unit (s := S1920x3072) ![384 * b, 0] ![384, 3072] (Int4.rows_inb (B := 5) rfl hb le_rfl)).toLoadRect

/-- They are rows of the array of centred codes. -/
theorem firstLoad_apply (c : Dev nD) (t : Fin cfg0.N) (b : ℕ) (hb : b + 1 ≤ 5) (r : Fin 384) (k : Fin 3072) :
    firstLoad m c t b hb (ValueIdx.ix2 r k) = centred m c (ValueIdx.ix2 (Int4.blockRow (S := 1920) rfl hb r) k) :=
  Int4.readCov_rows (S := 1920) (M := 384) (B := 5) rfl (codePay m c t) (centred m c) (codePay_apply m c t) _ hb _ r k

end Cert.OProjIdeal.Hand
-- ==== Proof.OProj.lean ====
/-
  The output projection with its residual, over the extended reals: the two arrays the kernel leaves are `oProjSpec` of the low and of the high nibbles, at every row
  and column. Every point leaves its block of each (`pointLow`, `pointHigh`); the blocks written back tile each result (`low_eq`,
  `high_eq`).
-/
module

public import proofs.«01_k».proof.Proof.OProjStep

@[expose] public section

set_option maxRecDepth 16384
set_option maxHeartbeats 1000000

noncomputable section

namespace Cert.OProjIdeal.Hand

open Cert.OProjIdeal Cert.OProjIdeal.Gen Idealize.ShloMosaic Idealize.ShloMosaic.TcCoe Idealize.SL.Sem
open Idealize.ShloMosaic.Pipeline (Dat)

variable (m : (ℓ : Loc nD τ sig) → Buf (Elt Ideal) ℓ)

/-- EVERY POINT leaves its block of the low result. -/
theorem pointLow (c : Dev nD) (t : Fin cfg0.N) : (outsAt0 m c t.val t.isLt).1 = fun y => lowSpec m c (place t y) := by
  by_cases h0 : t.val % 6 = 0
  · rw [outsAt0_A m c t h0]
    frame_open
    rw [Int4.readCov_tile (K := 3072) (N := 512) (G := 96) (n := 256) rfl rfl (iblk m c 3 t) (iblk m c 4 t) (iblk m c 5 t) bitcasts_S32x256_w8_S8x256_w32 bitcasts_S8x256_w32_S32x256_w8 shapeCasts_S1x256_S1x256 broadcasts_S1x256_S32x256 shapeCasts_S32x256_S32x256 bitsLt_bf16_f32 (ms0_3 t) (hs0_3 t) (ms0_4 t) (hs0_4 t) (ms0_5 t) (hs0_5 t)]
    · exact Int4.read_rowBlocks (e := .f32) (S := 1920) (M := 384) (B := 5) rfl (fun b hb => lowPay m c t b hb (firstLoad m c t b hb)) (fun y => lowSpec m c (place t y))
        (fun b hb r l => lowPay_apply m c t b hb _ (firstLoad_apply m c t b hb) r l) _ _ rfl
    · rfl
  · rw [outsAt0_B m c t h0]
    frame_open
    rw [Int4.readCov_tile (K := 3072) (N := 512) (G := 96) (n := 256) rfl rfl (iblk m c 3 t) (iblk m c 4 t) (iblk m c 5 t) bitcasts_S32x256_w8_S8x256_w32 bitcasts_S8x256_w32_S32x256_w8 shapeCasts_S1x256_S1x256 broadcasts_S1x256_S32x256 shapeCasts_S32x256_S32x256 bitsLt_bf16_f32 (ms0_3 t) (hs0_3 t) (ms0_4 t) (hs0_4 t) (ms0_5 t) (hs0_5 t)]
    · exact Int4.read_rowBlocks (e := .f32) (S := 1920) (M := 384) (B := 5) rfl
        (fun b hb => lowPay m c t b hb (laterLoad (outsAt0 m c (t.val - 1) (lt_of_le_of_lt (Nat.sub_le _ _) t.isLt)).2.2 b hb)) (fun y => lowSpec m c (place t y))
        (fun b hb r l => lowPay_apply m c t b hb _ (fun r k => (laterLoad_apply _ b hb r k).trans (congrFun (scratch m c _ _) _)) r l) _ _ rfl
    · rfl

/-- EVERY POINT leaves its block of the high result. -/
theorem pointHigh (c : Dev nD) (t : Fin cfg0.N) : (outsAt0 m c t.val t.isLt).2.1 = fun y => highSpec m c (place t y) := by
  by_cases h0 : t.val % 6 = 0
  · rw [outsAt0_A m c t h0]
    frame_open
    rw [Int4.readCov_tile (K := 3072) (N := 512) (G := 96) (n := 256) rfl rfl (iblk m c 3 t) (iblk m c 4 t) (iblk m c 5 t) bitcasts_S32x256_w8_S8x256_w32 bitcasts_S8x256_w32_S32x256_w8 shapeCasts_S1x256_S1x256 broadcasts_S1x256_S32x256 shapeCasts_S32x256_S32x256 bitsLt_bf16_f32 (ms0_3 t) (hs0_3 t) (ms0_4 t) (hs0_4 t) (ms0_5 t) (hs0_5 t)]
    · exact Int4.read_rowBlocks (e := .f32) (S := 1920) (M := 384) (B := 5) rfl (fun b hb => highPay m c t b hb (firstLoad m c t b hb)) (fun y => highSpec m c (place t y))
        (fun b hb r l => highPay_apply m c t b hb _ (firstLoad_apply m c t b hb) r l) _ _ rfl
    · rfl
  · rw [outsAt0_B m c t h0]
    frame_open
    rw [Int4.readCov_tile (K := 3072) (N := 512) (G := 96) (n := 256) rfl rfl (iblk m c 3 t) (iblk m c 4 t) (iblk m c 5 t) bitcasts_S32x256_w8_S8x256_w32 bitcasts_S8x256_w32_S32x256_w8 shapeCasts_S1x256_S1x256 broadcasts_S1x256_S32x256 shapeCasts_S32x256_S32x256 bitsLt_bf16_f32 (ms0_3 t) (hs0_3 t) (ms0_4 t) (hs0_4 t) (ms0_5 t) (hs0_5 t)]
    · exact Int4.read_rowBlocks (e := .f32) (S := 1920) (M := 384) (B := 5) rfl
        (fun b hb => highPay m c t b hb (laterLoad (outsAt0 m c (t.val - 1) (lt_of_le_of_lt (Nat.sub_le _ _) t.isLt)).2.2 b hb)) (fun y => highSpec m c (place t y))
        (fun b hb r l => highPay_apply m c t b hb _ (fun r k => (laterLoad_apply _ b hb r k).trans (congrFun (scratch m c _ _) _)) r l) _ _ rfl
    · rfl

/-- THE KERNEL: the low result after the run. -/
theorem low_eq (c : Dev nD) : (dats m 0 c).arrAt 8 cfg0.N = (lowSpec m c : Vec Ideal S1920x1536 .f32) := by
  refine (dats m 0 c).arrAt_eq_of_covers 8 _ (by decide +kernel) fun t hf y => ?_
  blk_simp
  rw [after0_8]
  refine (congrFun (pointLow m c t) _).trans ?_
  refine congrArg (lowSpec m c) ?_
  have i := (idx t).2.2.2.2.2.2.2.2.1
  have e0 : (((win0_8.blk t).view.emb y (0 : Fin 2) : Fin _) : ℕ) = (y 0).val := by blk_simp [i]
  have e1 : (((win0_8.blk t).view.emb y (1 : Fin 2) : Fin _) : ℕ) = t.val * 256 + (y 1).val := by blk_simp [i]
  funext a
  match a with
  | ⟨0, _⟩ => exact Fin.ext e0.symm
  | ⟨1, _⟩ => exact Fin.ext (Eq.trans (by show 256 * t.val + (y 1).val = t.val * 256 + (y 1).val; omega) e1.symm)

/-- THE KERNEL: the high result after the run. -/
theorem high_eq (c : Dev nD) : (dats m 0 c).arrAt 9 cfg0.N = (highSpec m c : Vec Ideal S1920x1536 .f32) := by
  refine (dats m 0 c).arrAt_eq_of_covers 9 _ (by decide +kernel) fun t hf y => ?_
  blk_simp
  rw [after0_9]
  refine (congrFun (pointHigh m c t) _).trans ?_
  refine congrArg (highSpec m c) ?_
  have i := (idx t).2.2.2.2.2.2.2.2.2
  have e0 : (((win0_9.blk t).view.emb y (0 : Fin 2) : Fin _) : ℕ) = (y 0).val := by blk_simp [i]
  have e1 : (((win0_9.blk t).view.emb y (1 : Fin 2) : Fin _) : ℕ) = t.val * 256 + (y 1).val := by blk_simp [i]
  funext a
  match a with
  | ⟨0, _⟩ => exact Fin.ext e0.symm
  | ⟨1, _⟩ => exact Fin.ext (Eq.trans (by show 256 * t.val + (y 1).val = t.val * 256 + (y 1).val; omega) e1.symm)

end Cert.OProjIdeal.Hand
-- ==== Proof.lean ====
module

public import proofs.«01_k».proof.Defs
public import proofs.«01_k».proof.Proof.Gen.GateUp.Frame
public import proofs.«01_k».proof.Proof.Gen.GateUpIdeal.Value
public import proofs.«01_k».proof.Proof.Gen.GateUpRefIdeal.Run
public import proofs.«01_k».proof.Proof.GateUp
public import proofs.«01_k».proof.Proof.Gen.Down.Frame
public import proofs.«01_k».proof.Proof.Gen.DownIdeal.Value
public import proofs.«01_k».proof.Proof.Gen.DownRefIdeal.Run
public import proofs.«01_k».proof.Proof.Down
public import proofs.«01_k».proof.Proof.Gen.Qkv.Frame
public import proofs.«01_k».proof.Proof.Gen.QkvIdeal.Value
public import proofs.«01_k».proof.Proof.Gen.QkvRefIdeal.Run
public import proofs.«01_k».proof.Proof.Qkv
public import proofs.«01_k».proof.Proof.Gen.OProj.Frame
public import proofs.«01_k».proof.Proof.Gen.OProjIdeal.Value
public import proofs.«01_k».proof.Proof.Gen.OProjRefIdeal.Run
public import proofs.«01_k».proof.Proof.OProj
public import Idealize.ShloMosaic.Adequacy
public import Idealize.ShloMosaic.Init
public import Idealize.ShloMosaic.Lib.Quiescent

@[expose] public section

noncomputable section

namespace Cert.Proof

open Idealize.ShloMosaic Idealize.SL.Sem

/-- The reference of the gate and up product ends with its arguments unchanged and no counter raised. -/
theorem quiescent_GateUpRefIdeal : quiescent_GateUpRefIdeal := fun m ρ _ =>
  (θ_run Cert.GateUpRefIdeal.defs _ _).mono (fun r h => ⟨fun c => (h c).2, sem_eq_zero_of_no_sems (by decide) r.2⟩)
    (Cert.GateUpRefIdeal.Value.run (F := Ideal) m ρ)

/-- Kernel and reference of the gate and up product leave the same array. -/
theorem algebraic_GateUpIdeal_GateUpRefIdeal : algebraic_GateUpIdeal_GateUpRefIdeal := by
  intro m ρ m' ρ' _ hagree
  refine ⟨_, Cert.GateUpIdeal.Value.run_blocks (F := Ideal) m ρ, ?_⟩
  refine (θ_run Cert.GateUpRefIdeal.defs _ _).mono (fun _ h c => ⟨?_, (h c).2⟩) (Cert.GateUpRefIdeal.Value.run (F := Ideal) m' ρ')
  refine (h c).1.trans ((Cert.GateUpRefIdeal.Hand.reference_eq m' c).trans (Eq.trans ?_ (Cert.GateUpIdeal.Hand.kernel_eq m c).symm))
  obtain ⟨h0, h1, h2, h3, h4⟩ := hagree c
  rw [h0, h1, h2, h3, h4]

/-- The reference of the down product ends with its arguments unchanged and no counter raised. -/
theorem quiescent_DownRefIdeal : quiescent_DownRefIdeal := fun m ρ _ =>
  (θ_run Cert.DownRefIdeal.defs _ _).mono (fun r h => ⟨fun c => (h c).2.2, sem_eq_zero_of_no_sems (by decide) r.2⟩)
    (Cert.DownRefIdeal.Value.run (F := Ideal) m ρ)

/-- Kernel and reference of the down product leave the same two arrays. -/
theorem algebraic_DownIdeal_DownRefIdeal : algebraic_DownIdeal_DownRefIdeal := by
  intro m ρ m' ρ' _ hagree
  refine ⟨_, _, Cert.DownIdeal.Value.run_blocks (F := Ideal) m ρ, ?_⟩
  refine (θ_run Cert.DownRefIdeal.defs _ _).mono (fun _ h c => ⟨(h c).1.trans (Eq.trans ?_ (Cert.DownIdeal.Hand.low_eq m c).symm),
    (h c).2.1.trans (Eq.trans ?_ (Cert.DownIdeal.Hand.high_eq m c).symm), (h c).2.2⟩) (Cert.DownRefIdeal.Hand.run m' ρ')
  · obtain ⟨h0, h1, h2, h3, h4, h5⟩ := hagree c
    rw [h0, h1, h2, h3, h4]
    rfl
  · obtain ⟨h0, h1, h2, h3, h4, h5⟩ := hagree c
    rw [h0, h1, h2, h3, h5]
    rfl

/-- The reference of the query, key and value product ends with its arguments unchanged and no counter raised. -/
theorem quiescent_QkvRefIdeal : quiescent_QkvRefIdeal := fun m ρ _ =>
  (θ_run Cert.QkvRefIdeal.defs _ _).mono (fun r h => ⟨fun c => (h c).2.2, sem_eq_zero_of_no_sems (by decide) r.2⟩)
    (Cert.QkvRefIdeal.Value.run (F := Ideal) m ρ)

/-- Kernel and reference of the query, key and value product leave the same two arrays. -/
theorem algebraic_QkvIdeal_QkvRefIdeal : algebraic_QkvIdeal_QkvRefIdeal := by
  intro m ρ m' ρ' _ hagree
  refine ⟨_, _, Cert.QkvIdeal.Value.run_blocks (F := Ideal) m ρ, ?_⟩
  refine (θ_run Cert.QkvRefIdeal.defs _ _).mono (fun _ h c => ⟨(h c).1.trans (Eq.trans ?_ (Cert.QkvIdeal.Hand.low_eq m c).symm),
    (h c).2.1.trans (Eq.trans ?_ (Cert.QkvIdeal.Hand.high_eq m c).symm), (h c).2.2⟩) (Cert.QkvRefIdeal.Hand.run m' ρ')
  · obtain ⟨h0, h1, h2, h3, h4⟩ := hagree c
    rw [h0, h1, h2, h3, h4]
    rfl
  · obtain ⟨h0, h1, h2, h3, h4⟩ := hagree c
    rw [h0, h1, h2, h3, h4]
    rfl

/-- The reference of the output projection ends with its arguments unchanged and no counter raised. -/
theorem quiescent_OProjRefIdeal : quiescent_OProjRefIdeal := fun m ρ _ =>
  (θ_run Cert.OProjRefIdeal.defs _ _).mono (fun r h => ⟨fun c => (h c).2.2, sem_eq_zero_of_no_sems (by decide) r.2⟩)
    (Cert.OProjRefIdeal.Value.run (F := Ideal) m ρ)

/-- Kernel and reference of the output projection leave the same two arrays. -/
theorem algebraic_OProjIdeal_OProjRefIdeal : algebraic_OProjIdeal_OProjRefIdeal := by
  intro m ρ m' ρ' _ hagree
  refine ⟨_, _, Cert.OProjIdeal.Value.run_blocks (F := Ideal) m ρ, ?_⟩
  refine (θ_run Cert.OProjRefIdeal.defs _ _).mono (fun _ h c => ⟨(h c).1.trans (Eq.trans ?_ (Cert.OProjIdeal.Hand.low_eq m c).symm),
    (h c).2.1.trans (Eq.trans ?_ (Cert.OProjIdeal.Hand.high_eq m c).symm), (h c).2.2⟩) (Cert.OProjRefIdeal.Hand.run m' ρ')
  · obtain ⟨h0, h1, h2, h3, h4, h5⟩ := hagree c
    rw [h0, h1, h2, h3, h4, h5]
    rfl
  · obtain ⟨h0, h1, h2, h3, h4, h5⟩ := hagree c
    rw [h0, h1, h2, h3, h4, h5]
    rfl

/-- Everything the certificate claims. -/
theorem claim : Cert.Claim := ⟨Cert.GateUp.Gen.facts, Cert.GateUpIdeal.Gen.facts, Cert.GateUpRefIdeal.Gen.facts, Cert.Down.Gen.facts, Cert.DownIdeal.Gen.facts, Cert.DownRefIdeal.Gen.facts, Cert.Qkv.Gen.facts, Cert.QkvIdeal.Gen.facts, Cert.QkvRefIdeal.Gen.facts, Cert.OProj.Gen.facts, Cert.OProjIdeal.Gen.facts, Cert.OProjRefIdeal.Gen.facts,
  fun m ρ _ => Cert.GateUp.Gen.frame m ρ, fun m ρ _ => Cert.GateUpIdeal.Gen.frame m ρ, quiescent_GateUpRefIdeal,
  fun m ρ _ => Cert.Down.Gen.frame m ρ, fun m ρ _ => Cert.DownIdeal.Gen.frame m ρ, quiescent_DownRefIdeal,
  fun m ρ _ => Cert.Qkv.Gen.frame m ρ, fun m ρ _ => Cert.QkvIdeal.Gen.frame m ρ, quiescent_QkvRefIdeal,
  fun m ρ _ => Cert.OProj.Gen.frame m ρ, fun m ρ _ => Cert.OProjIdeal.Gen.frame m ρ, quiescent_OProjRefIdeal,
  (trivial : preserves_GateUp_GateUpIdeal), algebraic_GateUpIdeal_GateUpRefIdeal,
  (trivial : preserves_Down_DownIdeal), algebraic_DownIdeal_DownRefIdeal,
  (trivial : preserves_Qkv_QkvIdeal), algebraic_QkvIdeal_QkvRefIdeal,
  (trivial : preserves_OProj_OProjIdeal), algebraic_OProjIdeal_OProjRefIdeal⟩

end Cert.Proof

end
